-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3072x1024 : Shape := ⟨3, ![16, 3072, 1024]⟩
abbrev S16x1024x2048 : Shape := ⟨3, ![16, 1024, 2048]⟩
abbrev S16x8x16 : Shape := ⟨3, ![16, 8, 16]⟩
abbrev S16x128 : Shape := ⟨2, ![16, 128]⟩
abbrev S16x3072x2048 : Shape := ⟨3, ![16, 3072, 2048]⟩
abbrev S16x8x3072 : Shape := ⟨3, ![16, 8, 3072]⟩
abbrev S1x512x1024 : Shape := ⟨3, ![1, 512, 1024]⟩
abbrev S1x1024x2048 : Shape := ⟨3, ![1, 1024, 2048]⟩
abbrev S1x512x2048 : Shape := ⟨3, ![1, 512, 2048]⟩
abbrev S1x8x512 : Shape := ⟨3, ![1, 8, 512]⟩
abbrev S1024x2048 : Shape := ⟨2, ![1024, 2048]⟩
abbrev S512x1024 : Shape := ⟨2, ![512, 1024]⟩
abbrev S1x128x128 : Shape := ⟨3, ![1, 128, 128]⟩
abbrev S128x128 : Shape := ⟨2, ![128, 128]⟩
abbrev S1x1 : Shape := ⟨2, ![1, 1]⟩
abbrev S512x8 : Shape := ⟨2, ![512, 8]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S8x512 : Shape := ⟨2, ![8, 512]⟩
abbrev S512x2048 : Shape := ⟨2, ![512, 2048]⟩
abbrev S16x3072x8 : Shape := ⟨3, ![16, 3072, 8]⟩

abbrev nBuf : Space → Nat
  | .hbm => 8
  | .vmem => 12
  | .smem => 1
  | _ => 0

abbrev bufTy : (tb : Table) → Fin (tcTables nBuf tb) → BufTy
  | .hbm, ⟨0, _⟩ => ⟨S16x3072x1024, .bf16⟩
  | .hbm, ⟨1, _⟩ => ⟨S16x1024x2048, .fp8e4m3⟩
  | .hbm, ⟨2, _⟩ => ⟨S16x8x16, .f32⟩
  | .hbm, ⟨3, _⟩ => ⟨S16x128, .f32⟩
  | .hbm, ⟨4, _⟩ => ⟨S16x3072x2048, .bf16⟩
  | .hbm, ⟨5, _⟩ => ⟨S16x3072x1024, .fp8e4m3⟩
  | .hbm, ⟨6, _⟩ => ⟨S16x8x3072, .f32⟩
  | .hbm, ⟨7, _⟩ => ⟨S16x3072x8, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x2048, .fp8e4m3⟩
  | .local _ .vmem, ⟨3, _⟩ => ⟨S1x1024x2048, .fp8e4m3⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .fp8e4m3⟩
  | .local _ .vmem, ⟨7, _⟩ => ⟨S1x512x1024, .fp8e4m3⟩
  | .local _ .vmem, ⟨8, _⟩ => ⟨S1x8x512, .f32⟩
  | .local _ .vmem, ⟨9, _⟩ => ⟨S1x8x512, .f32⟩
  | .local _ .vmem, ⟨10, _⟩ => ⟨S1024x2048, .bf16⟩
  | .local _ .vmem, ⟨11, _⟩ => ⟨S512x1024, .bf16⟩
  | .local _ .smem, ⟨0, _⟩ => ⟨S16x128, .f32⟩
  | _, _ => ⟨S16x3072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v1114 : Index := Scalar.indexCast arg0
  let c0_407 : Index := 0#32
  ![v1114.toNat, 0]
def k0_off2 (i : grid0.Coords) : Fin 2 → Nat :=
  let arg0 : BitVec 32 := BitVec.ofNat 32 (i 0).val
  let v1125 : Index := Scalar.indexCast arg0
  let c1 : Index := 1#32
  ![v1125.toNat, 1]
def k0_off3 (i : grid0.Coords) : Fin 2 → Nat :=
  let arg0 : BitVec 32 := BitVec.ofNat 32 (i 0).val
  let v1136 : Index := Scalar.indexCast arg0
  let c2 : Index := 2#32
  ![v1136.toNat, 2]
def k0_off4 (i : grid0.Coords) : Fin 2 → Nat :=
  let arg0 : BitVec 32 := BitVec.ofNat 32 (i 0).val
  let v1147 : Index := Scalar.indexCast arg0
  let c3 : Index := 3#32
  ![v1147.toNat, 3]
def k0_off5 (i : grid0.Coords) : Fin 2 → Nat :=
  let arg0 : BitVec 32 := BitVec.ofNat 32 (i 0).val
  let v1158 : Index := Scalar.indexCast arg0
  let c4 : Index := 4#32
  ![v1158.toNat, 4]
def k0_off6 (i : grid0.Coords) : Fin 2 → Nat :=
  let arg0 : BitVec 32 := BitVec.ofNat 32 (i 0).val
  let v1169 : Index := Scalar.indexCast arg0
  let c5 : Index := 5#32
  ![v1169.toNat, 5]
def k0_off7 (i : grid0.Coords) : Fin 2 → Nat :=
  let arg0 : BitVec 32 := BitVec.ofNat 32 (i 0).val
  let v1180 : Index := Scalar.indexCast arg0
  let c6 : Index := 6#32
  ![v1180.toNat, 6]
def k0_off8 (i : grid0.Coords) : Fin 2 → Nat :=
  let arg0 : BitVec 32 := BitVec.ofNat 32 (i 0).val
  let v1191 : Index := Scalar.indexCast arg0
  let c7 : Index := 7#32
  ![v1191.toNat, 7]
def k0_off9 (i : grid0.Coords) : Fin 2 → Nat :=
  let arg0 : BitVec 32 := BitVec.ofNat 32 (i 0).val
  let v1202 : Index := Scalar.indexCast arg0
  let c8 : Index := 8#32
  ![v1202.toNat, 8]
def k0_off10 (i : grid0.Coords) : Fin 2 → Nat :=
  let arg0 : BitVec 32 := BitVec.ofNat 32 (i 0).val
  let v1213 : Index := Scalar.indexCast arg0
  let c9 : Index := 9#32
  ![v1213.toNat, 9]
def k0_off11 (i : grid0.Coords) : Fin 2 → Nat :=
  let arg0 : BitVec 32 := BitVec.ofNat 32 (i 0).val
  let v1224 : Index := Scalar.indexCast arg0
  let c10 : Index := 10#32
  ![v1224.toNat, 10]
def k0_off12 (i : grid0.Coords) : Fin 2 → Nat :=
  let arg0 : BitVec 32 := BitVec.ofNat 32 (i 0).val
  let v1235 : Index := Scalar.indexCast arg0
  let c11 : Index := 11#32
  ![v1235.toNat, 11]
def k0_off13 (i : grid0.Coords) : Fin 2 → Nat :=
  let arg0 : BitVec 32 := BitVec.ofNat 32 (i 0).val
  let v1246 : Index := Scalar.indexCast arg0
  let c12 : Index := 12#32
  ![v1246.toNat, 12]
def k0_off14 (i : grid0.Coords) : Fin 2 → Nat :=
  let arg0 : BitVec 32 := BitVec.ofNat 32 (i 0).val
  let v1257 : Index := Scalar.indexCast arg0
  let c13 : Index := 13#32
  ![v1257.toNat, 13]
def k0_off15 (i : grid0.Coords) : Fin 2 → Nat :=
  let arg0 : BitVec 32 := BitVec.ofNat 32 (i 0).val
  let v1268 : Index := Scalar.indexCast arg0
  let c14 : Index := 14#32
  ![v1268.toNat, 14]
def k0_off16 (i : grid0.Coords) : Fin 2 → Nat :=
  let arg0 : BitVec 32 := BitVec.ofNat 32 (i 0).val
  let v1279 : Index := Scalar.indexCast arg0
  let c15 : Index := 15#32
  ![v1279.toNat, 15]
def k0_off17 (i : grid0.Coords) : Fin 2 → Nat :=
  let arg0 : BitVec 32 := BitVec.ofNat 32 (i 0).val
  let v1290 : Index := Scalar.indexCast arg0
  let c16 : Index := 16#32
  ![v1290.toNat, 16]
def k0_off18 (i : grid0.Coords) : Fin 2 → Nat :=
  let arg0 : BitVec 32 := BitVec.ofNat 32 (i 0).val
  let v1301 : Index := Scalar.indexCast arg0
  let c17 : Index := 17#32
  ![v1301.toNat, 17]
def k0_off19 (i : grid0.Coords) : Fin 2 → Nat :=
  let arg0 : BitVec 32 := BitVec.ofNat 32 (i 0).val
  let v1312 : Index := Scalar.indexCast arg0
  let c18 : Index := 18#32
  ![v1312.toNat, 18]
def k0_off20 (i : grid0.Coords) : Fin 2 → Nat :=
  let arg0 : BitVec 32 := BitVec.ofNat 32 (i 0).val
  let v1323 : Index := Scalar.indexCast arg0
  let c19 : Index := 19#32
  ![v1323.toNat, 19]
def k0_off21 (i : grid0.Coords) : Fin 2 → Nat :=
  let arg0 : BitVec 32 := BitVec.ofNat 32 (i 0).val
  let v1334 : Index := Scalar.indexCast arg0
  let c20 : Index := 20#32
  ![v1334.toNat, 20]
def k0_off22 (i : grid0.Coords) : Fin 2 → Nat :=
  let arg0 : BitVec 32 := BitVec.ofNat 32 (i 0).val
  let v1345 : Index := Scalar.indexCast arg0
  let c21 : Index := 21#32
  ![v1345.toNat, 21]
def k0_off23 (i : grid0.Coords) : Fin 2 → Nat :=
  let arg0 : BitVec 32 := BitVec.ofNat 32 (i 0).val
  let v1356 : Index := Scalar.indexCast arg0
  let c22 : Index := 22#32
  ![v1356.toNat, 22]
def k0_off24 (i : grid0.Coords) : Fin 2 → Nat :=
  let arg0 : BitVec 32 := BitVec.ofNat 32 (i 0).val
  let v1367 : Index := Scalar.indexCast arg0
  let c23 : Index := 23#32
  ![v1367.toNat, 23]
def k0_off25 (i : grid0.Coords) : Fin 2 → Nat :=
  let arg0 : BitVec 32 := BitVec.ofNat 32 (i 0).val
  let v1378 : Index := Scalar.indexCast arg0
  let c24 : Index := 24#32
  ![v1378.toNat, 24]
def k0_off26 (i : grid0.Coords) : Fin 2 → Nat :=
  let arg0 : BitVec 32 := BitVec.ofNat 32 (i 0).val
  let v1389 : Index := Scalar.indexCast arg0
  let c25 : Index := 25#32
  ![v1389.toNat, 25]
def k0_off27 (i : grid0.Coords) : Fin 2 → Nat :=
  let arg0 : BitVec 32 := BitVec.ofNat 32 (i 0).val
  let v1400 : Index := Scalar.indexCast arg0
  let c26 : Index := 26#32
  ![v1400.toNat, 26]
def k0_off28 (i : grid0.Coords) : Fin 2 → Nat :=
  let arg0 : BitVec 32 := BitVec.ofNat 32 (i 0).val
  let v1411 : Index := Scalar.indexCast arg0
  let c27 : Index := 27#32
  ![v1411.toNat, 27]
def k0_off29 (i : grid0.Coords) : Fin 2 → Nat :=
  let arg0 : BitVec 32 := BitVec.ofNat 32 (i 0).val
  let v1422 : Index := Scalar.indexCast arg0
  let c28 : Index := 28#32
  ![v1422.toNat, 28]
def k0_off30 (i : grid0.Coords) : Fin 2 → Nat :=
  let arg0 : BitVec 32 := BitVec.ofNat 32 (i 0).val
  let v1433 : Index := Scalar.indexCast arg0
  let c29 : Index := 29#32
  ![v1433.toNat, 29]
def k0_off31 (i : grid0.Coords) : Fin 2 → Nat :=
  let arg0 : BitVec 32 := BitVec.ofNat 32 (i 0).val
  let v1444 : Index := Scalar.indexCast arg0
  let c30 : Index := 30#32
  ![v1444.toNat, 30]
def k0_off32 (i : grid0.Coords) : Fin 2 → Nat :=
  let arg0 : BitVec 32 := BitVec.ofNat 32 (i 0).val
  let v1455 : Index := Scalar.indexCast arg0
  let c31 : Index := 31#32
  ![v1455.toNat, 31]
def k0_off33 (i : grid0.Coords) : Fin 2 → Nat :=
  let arg0 : BitVec 32 := BitVec.ofNat 32 (i 0).val
  let v1466 : Index := Scalar.indexCast arg0
  let c32 : Index := 32#32
  ![v1466.toNat, 32]
def k0_off34 (i : grid0.Coords) : Fin 2 → Nat :=
  let arg0 : BitVec 32 := BitVec.ofNat 32 (i 0).val
  let v1477 : Index := Scalar.indexCast arg0
  let c33 : Index := 33#32
  ![v1477.toNat, 33]
def k0_off35 (i : grid0.Coords) : Fin 2 → Nat :=
  let arg0 : BitVec 32 := BitVec.ofNat 32 (i 0).val
  let v1488 : Index := Scalar.indexCast arg0
  let c34 : Index := 34#32
  ![v1488.toNat, 34]
def k0_off36 (i : grid0.Coords) : Fin 2 → Nat :=
  let arg0 : BitVec 32 := BitVec.ofNat 32 (i 0).val
  let v1499 : Index := Scalar.indexCast arg0
  let c35 : Index := 35#32
  ![v1499.toNat, 35]
def k0_off37 (i : grid0.Coords) : Fin 2 → Nat :=
  let arg0 : BitVec 32 := BitVec.ofNat 32 (i 0).val
  let v1510 : Index := Scalar.indexCast arg0
  let c36 : Index := 36#32
  ![v1510.toNat, 36]
def k0_off38 (i : grid0.Coords) : Fin 2 → Nat :=
  let arg0 : BitVec 32 := BitVec.ofNat 32 (i 0).val
  let v1521 : Index := Scalar.indexCast arg0
  let c37 : Index := 37#32
  ![v1521.toNat, 37]
def k0_off39 (i : grid0.Coords) : Fin 2 → Nat :=
  let arg0 : BitVec 32 := BitVec.ofNat 32 (i 0).val
  let v1532 : Index := Scalar.indexCast arg0
  let c38 : Index := 38#32
  ![v1532.toNat, 38]
def k0_off40 (i : grid0.Coords) : Fin 2 → Nat :=
  let arg0 : BitVec 32 := BitVec.ofNat 32 (i 0).val
  let v1543 : Index := Scalar.indexCast arg0
  let c39 : Index := 39#32
  ![v1543.toNat, 39]
def k0_off41 (i : grid0.Coords) : Fin 2 → Nat :=
  let arg0 : BitVec 32 := BitVec.ofNat 32 (i 0).val
  let v1554 : Index := Scalar.indexCast arg0
  let c40 : Index := 40#32
  ![v1554.toNat, 40]
def k0_off42 (i : grid0.Coords) : Fin 2 → Nat :=
  let arg0 : BitVec 32 := BitVec.ofNat 32 (i 0).val
  let v1565 : Index := Scalar.indexCast arg0
  let c41 : Index := 41#32
  ![v1565.toNat, 41]
def k0_off43 (i : grid0.Coords) : Fin 2 → Nat :=
  let arg0 : BitVec 32 := BitVec.ofNat 32 (i 0).val
  let v1576 : Index := Scalar.indexCast arg0
  let c42 : Index := 42#32
  ![v1576.toNat, 42]
def k0_off44 (i : grid0.Coords) : Fin 2 → Nat :=
  let arg0 : BitVec 32 := BitVec.ofNat 32 (i 0).val
  let v1587 : Index := Scalar.indexCast arg0
  let c43 : Index := 43#32
  ![v1587.toNat, 43]
def k0_off45 (i : grid0.Coords) : Fin 2 → Nat :=
  let arg0 : BitVec 32 := BitVec.ofNat 32 (i 0).val
  let v1598 : Index := Scalar.indexCast arg0
  let c44 : Index := 44#32
  ![v1598.toNat, 44]
def k0_off46 (i : grid0.Coords) : Fin 2 → Nat :=
  let arg0 : BitVec 32 := BitVec.ofNat 32 (i 0).val
  let v1609 : Index := Scalar.indexCast arg0
  let c45 : Index := 45#32
  ![v1609.toNat, 45]
def k0_off47 (i : grid0.Coords) : Fin 2 → Nat :=
  let arg0 : BitVec 32 := BitVec.ofNat 32 (i 0).val
  let v1620 : Index := Scalar.indexCast arg0
  let c46 : Index := 46#32
  ![v1620.toNat, 46]
def k0_off48 (i : grid0.Coords) : Fin 2 → Nat :=
  let arg0 : BitVec 32 := BitVec.ofNat 32 (i 0).val
  let v1631 : Index := Scalar.indexCast arg0
  let c47 : Index := 47#32
  ![v1631.toNat, 47]
def k0_off49 (i : grid0.Coords) : Fin 2 → Nat :=
  let arg0 : BitVec 32 := BitVec.ofNat 32 (i 0).val
  let v1642 : Index := Scalar.indexCast arg0
  let c48 : Index := 48#32
  ![v1642.toNat, 48]
def k0_off50 (i : grid0.Coords) : Fin 2 → Nat :=
  let arg0 : BitVec 32 := BitVec.ofNat 32 (i 0).val
  let v1653 : Index := Scalar.indexCast arg0
  let c49 : Index := 49#32
  ![v1653.toNat, 49]
def k0_off51 (i : grid0.Coords) : Fin 2 → Nat :=
  let arg0 : BitVec 32 := BitVec.ofNat 32 (i 0).val
  let v1664 : Index := Scalar.indexCast arg0
  let c50 : Index := 50#32
  ![v1664.toNat, 50]
def k0_off52 (i : grid0.Coords) : Fin 2 → Nat :=
  let arg0 : BitVec 32 := BitVec.ofNat 32 (i 0).val
  let v1675 : Index := Scalar.indexCast arg0
  let c51 : Index := 51#32
  ![v1675.toNat, 51]
def k0_off53 (i : grid0.Coords) : Fin 2 → Nat :=
  let arg0 : BitVec 32 := BitVec.ofNat 32 (i 0).val
  let v1686 : Index := Scalar.indexCast arg0
  let c52 : Index := 52#32
  ![v1686.toNat, 52]
def k0_off54 (i : grid0.Coords) : Fin 2 → Nat :=
  let arg0 : BitVec 32 := BitVec.ofNat 32 (i 0).val
  let v1697 : Index := Scalar.indexCast arg0
  let c53 : Index := 53#32
  ![v1697.toNat, 53]
def k0_off55 (i : grid0.Coords) : Fin 2 → Nat :=
  let arg0 : BitVec 32 := BitVec.ofNat 32 (i 0).val
  let v1708 : Index := Scalar.indexCast arg0
  let c54 : Index := 54#32
  ![v1708.toNat, 54]
def k0_off56 (i : grid0.Coords) : Fin 2 → Nat :=
  let arg0 : BitVec 32 := BitVec.ofNat 32 (i 0).val
  let v1719 : Index := Scalar.indexCast arg0
  let c55 : Index := 55#32
  ![v1719.toNat, 55]
def k0_off57 (i : grid0.Coords) : Fin 2 → Nat :=
  let arg0 : BitVec 32 := BitVec.ofNat 32 (i 0).val
  let v1730 : Index := Scalar.indexCast arg0
  let c56 : Index := 56#32
  ![v1730.toNat, 56]
def k0_off58 (i : grid0.Coords) : Fin 2 → Nat :=
  let arg0 : BitVec 32 := BitVec.ofNat 32 (i 0).val
  let v1741 : Index := Scalar.indexCast arg0
  let c57 : Index := 57#32
  ![v1741.toNat, 57]
def k0_off59 (i : grid0.Coords) : Fin 2 → Nat :=
  let arg0 : BitVec 32 := BitVec.ofNat 32 (i 0).val
  let v1752 : Index := Scalar.indexCast arg0
  let c58 : Index := 58#32
  ![v1752.toNat, 58]
def k0_off60 (i : grid0.Coords) : Fin 2 → Nat :=
  let arg0 : BitVec 32 := BitVec.ofNat 32 (i 0).val
  let v1763 : Index := Scalar.indexCast arg0
  let c59 : Index := 59#32
  ![v1763.toNat, 59]
def k0_off61 (i : grid0.Coords) : Fin 2 → Nat :=
  let arg0 : BitVec 32 := BitVec.ofNat 32 (i 0).val
  let v1774 : Index := Scalar.indexCast arg0
  let c60 : Index := 60#32
  ![v1774.toNat, 60]
def k0_off62 (i : grid0.Coords) : Fin 2 → Nat :=
  let arg0 : BitVec 32 := BitVec.ofNat 32 (i 0).val
  let v1785 : Index := Scalar.indexCast arg0
  let c61 : Index := 61#32
  ![v1785.toNat, 61]
def k0_off63 (i : grid0.Coords) : Fin 2 → Nat :=
  let arg0 : BitVec 32 := BitVec.ofNat 32 (i 0).val
  let v1796 : Index := Scalar.indexCast arg0
  let c62 : Index := 62#32
  ![v1796.toNat, 62]
def k0_off64 (i : grid0.Coords) : Fin 2 → Nat :=
  let arg0 : BitVec 32 := BitVec.ofNat 32 (i 0).val
  let v1807 : Index := Scalar.indexCast arg0
  let c63 : Index := 63#32
  ![v1807.toNat, 63]
def k0_off65 (i : grid0.Coords) : Fin 2 → Nat :=
  let arg0 : BitVec 32 := BitVec.ofNat 32 (i 0).val
  let v1818 : Index := Scalar.indexCast arg0
  let c64 : Index := 64#32
  ![v1818.toNat, 64]
def k0_off66 (i : grid0.Coords) : Fin 2 → Nat :=
  let arg0 : BitVec 32 := BitVec.ofNat 32 (i 0).val
  let v1829 : Index := Scalar.indexCast arg0
  let c65 : Index := 65#32
  ![v1829.toNat, 65]
def k0_off67 (i : grid0.Coords) : Fin 2 → Nat :=
  let arg0 : BitVec 32 := BitVec.ofNat 32 (i 0).val
  let v1840 : Index := Scalar.indexCast arg0
  let c66 : Index := 66#32
  ![v1840.toNat, 66]
def k0_off68 (i : grid0.Coords) : Fin 2 → Nat :=
  let arg0 : BitVec 32 := BitVec.ofNat 32 (i 0).val
  let v1851 : Index := Scalar.indexCast arg0
  let c67 : Index := 67#32
  ![v1851.toNat, 67]
def k0_off69 (i : grid0.Coords) : Fin 2 → Nat :=
  let arg0 : BitVec 32 := BitVec.ofNat 32 (i 0).val
  let v1862 : Index := Scalar.indexCast arg0
  let c68 : Index := 68#32
  ![v1862.toNat, 68]
def k0_off70 (i : grid0.Coords) : Fin 2 → Nat :=
  let arg0 : BitVec 32 := BitVec.ofNat 32 (i 0).val
  let v1873 : Index := Scalar.indexCast arg0
  let c69 : Index := 69#32
  ![v1873.toNat, 69]
def k0_off71 (i : grid0.Coords) : Fin 2 → Nat :=
  let arg0 : BitVec 32 := BitVec.ofNat 32 (i 0).val
  let v1884 : Index := Scalar.indexCast arg0
  let c70 : Index := 70#32
  ![v1884.toNat, 70]
def k0_off72 (i : grid0.Coords) : Fin 2 → Nat :=
  let arg0 : BitVec 32 := BitVec.ofNat 32 (i 0).val
  let v1895 : Index := Scalar.indexCast arg0
  let c71 : Index := 71#32
  ![v1895.toNat, 71]
def k0_off73 (i : grid0.Coords) : Fin 2 → Nat :=
  let arg0 : BitVec 32 := BitVec.ofNat 32 (i 0).val
  let v1906 : Index := Scalar.indexCast arg0
  let c72 : Index := 72#32
  ![v1906.toNat, 72]
def k0_off74 (i : grid0.Coords) : Fin 2 → Nat :=
  let arg0 : BitVec 32 := BitVec.ofNat 32 (i 0).val
  let v1917 : Index := Scalar.indexCast arg0
  let c73 : Index := 73#32
  ![v1917.toNat, 73]
def k0_off75 (i : grid0.Coords) : Fin 2 → Nat :=
  let arg0 : BitVec 32 := BitVec.ofNat 32 (i 0).val
  let v1928 : Index := Scalar.indexCast arg0
  let c74 : Index := 74#32
  ![v1928.toNat, 74]
def k0_off76 (i : grid0.Coords) : Fin 2 → Nat :=
  let arg0 : BitVec 32 := BitVec.ofNat 32 (i 0).val
  let v1939 : Index := Scalar.indexCast arg0
  let c75 : Index := 75#32
  ![v1939.toNat, 75]
def k0_off77 (i : grid0.Coords) : Fin 2 → Nat :=
  let arg0 : BitVec 32 := BitVec.ofNat 32 (i 0).val
  let v1950 : Index := Scalar.indexCast arg0
  let c76 : Index := 76#32
  ![v1950.toNat, 76]
def k0_off78 (i : grid0.Coords) : Fin 2 → Nat :=
  let arg0 : BitVec 32 := BitVec.ofNat 32 (i 0).val
  let v1961 : Index := Scalar.indexCast arg0
  let c77 : Index := 77#32
  ![v1961.toNat, 77]
def k0_off79 (i : grid0.Coords) : Fin 2 → Nat :=
  let arg0 : BitVec 32 := BitVec.ofNat 32 (i 0).val
  let v1972 : Index := Scalar.indexCast arg0
  let c78 : Index := 78#32
  ![v1972.toNat, 78]
def k0_off80 (i : grid0.Coords) : Fin 2 → Nat :=
  let arg0 : BitVec 32 := BitVec.ofNat 32 (i 0).val
  let v1983 : Index := Scalar.indexCast arg0
  let c79 : Index := 79#32
  ![v1983.toNat, 79]
def k0_off81 (i : grid0.Coords) : Fin 2 → Nat :=
  let arg0 : BitVec 32 := BitVec.ofNat 32 (i 0).val
  let v1994 : Index := Scalar.indexCast arg0
  let c80 : Index := 80#32
  ![v1994.toNat, 80]
def k0_off82 (i : grid0.Coords) : Fin 2 → Nat :=
  let arg0 : BitVec 32 := BitVec.ofNat 32 (i 0).val
  let v2005 : Index := Scalar.indexCast arg0
  let c81 : Index := 81#32
  ![v2005.toNat, 81]
def k0_off83 (i : grid0.Coords) : Fin 2 → Nat :=
  let arg0 : BitVec 32 := BitVec.ofNat 32 (i 0).val
  let v2016 : Index := Scalar.indexCast arg0
  let c82 : Index := 82#32
  ![v2016.toNat, 82]
def k0_off84 (i : grid0.Coords) : Fin 2 → Nat :=
  let arg0 : BitVec 32 := BitVec.ofNat 32 (i 0).val
  let v2027 : Index := Scalar.indexCast arg0
  let c83 : Index := 83#32
  ![v2027.toNat, 83]
def k0_off85 (i : grid0.Coords) : Fin 2 → Nat :=
  let arg0 : BitVec 32 := BitVec.ofNat 32 (i 0).val
  let v2038 : Index := Scalar.indexCast arg0
  let c84 : Index := 84#32
  ![v2038.toNat, 84]
def k0_off86 (i : grid0.Coords) : Fin 2 → Nat :=
  let arg0 : BitVec 32 := BitVec.ofNat 32 (i 0).val
  let v2049 : Index := Scalar.indexCast arg0
  let c85 : Index := 85#32
  ![v2049.toNat, 85]
def k0_off87 (i : grid0.Coords) : Fin 2 → Nat :=
  let arg0 : BitVec 32 := BitVec.ofNat 32 (i 0).val
  let v2060 : Index := Scalar.indexCast arg0
  let c86 : Index := 86#32
  ![v2060.toNat, 86]
def k0_off88 (i : grid0.Coords) : Fin 2 → Nat :=
  let arg0 : BitVec 32 := BitVec.ofNat 32 (i 0).val
  let v2071 : Index := Scalar.indexCast arg0
  let c87 : Index := 87#32
  ![v2071.toNat, 87]
def k0_off89 (i : grid0.Coords) : Fin 2 → Nat :=
  let arg0 : BitVec 32 := BitVec.ofNat 32 (i 0).val
  let v2082 : Index := Scalar.indexCast arg0
  let c88 : Index := 88#32
  ![v2082.toNat, 88]
def k0_off90 (i : grid0.Coords) : Fin 2 → Nat :=
  let arg0 : BitVec 32 := BitVec.ofNat 32 (i 0).val
  let v2093 : Index := Scalar.indexCast arg0
  let c89 : Index := 89#32
  ![v2093.toNat, 89]
def k0_off91 (i : grid0.Coords) : Fin 2 → Nat :=
  let arg0 : BitVec 32 := BitVec.ofNat 32 (i 0).val
  let v2104 : Index := Scalar.indexCast arg0
  let c90 : Index := 90#32
  ![v2104.toNat, 90]
def k0_off92 (i : grid0.Coords) : Fin 2 → Nat :=
  let arg0 : BitVec 32 := BitVec.ofNat 32 (i 0).val
  let v2115 : Index := Scalar.indexCast arg0
  let c91 : Index := 91#32
  ![v2115.toNat, 91]
def k0_off93 (i : grid0.Coords) : Fin 2 → Nat :=
  let arg0 : BitVec 32 := BitVec.ofNat 32 (i 0).val
  let v2126 : Index := Scalar.indexCast arg0
  let c92 : Index := 92#32
  ![v2126.toNat, 92]
def k0_off94 (i : grid0.Coords) : Fin 2 → Nat :=
  let arg0 : BitVec 32 := BitVec.ofNat 32 (i 0).val
  let v2137 : Index := Scalar.indexCast arg0
  let c93 : Index := 93#32
  ![v2137.toNat, 93]
def k0_off95 (i : grid0.Coords) : Fin 2 → Nat :=
  let arg0 : BitVec 32 := BitVec.ofNat 32 (i 0).val
  let v2148 : Index := Scalar.indexCast arg0
  let c94 : Index := 94#32
  ![v2148.toNat, 94]
def k0_off96 (i : grid0.Coords) : Fin 2 → Nat :=
  let arg0 : BitVec 32 := BitVec.ofNat 32 (i 0).val
  let v2159 : Index := Scalar.indexCast arg0
  let c95 : Index := 95#32
  ![v2159.toNat, 95]
def k0_off97 (i : grid0.Coords) : Fin 2 → Nat :=
  let arg0 : BitVec 32 := BitVec.ofNat 32 (i 0).val
  let v2170 : Index := Scalar.indexCast arg0
  let c96 : Index := 96#32
  ![v2170.toNat, 96]
def k0_off98 (i : grid0.Coords) : Fin 2 → Nat :=
  let arg0 : BitVec 32 := BitVec.ofNat 32 (i 0).val
  let v2181 : Index := Scalar.indexCast arg0
  let c97 : Index := 97#32
  ![v2181.toNat, 97]
def k0_off99 (i : grid0.Coords) : Fin 2 → Nat :=
  let arg0 : BitVec 32 := BitVec.ofNat 32 (i 0).val
  let v2192 : Index := Scalar.indexCast arg0
  let c98 : Index := 98#32
  ![v2192.toNat, 98]
def k0_off100 (i : grid0.Coords) : Fin 2 → Nat :=
  let arg0 : BitVec 32 := BitVec.ofNat 32 (i 0).val
  let v2203 : Index := Scalar.indexCast arg0
  let c99 : Index := 99#32
  ![v2203.toNat, 99]
def k0_off101 (i : grid0.Coords) : Fin 2 → Nat :=
  let arg0 : BitVec 32 := BitVec.ofNat 32 (i 0).val
  let v2214 : Index := Scalar.indexCast arg0
  let c100 : Index := 100#32
  ![v2214.toNat, 100]
def k0_off102 (i : grid0.Coords) : Fin 2 → Nat :=
  let arg0 : BitVec 32 := BitVec.ofNat 32 (i 0).val
  let v2225 : Index := Scalar.indexCast arg0
  let c101 : Index := 101#32
  ![v2225.toNat, 101]
def k0_off103 (i : grid0.Coords) : Fin 2 → Nat :=
  let arg0 : BitVec 32 := BitVec.ofNat 32 (i 0).val
  let v2236 : Index := Scalar.indexCast arg0
  let c102 : Index := 102#32
  ![v2236.toNat, 102]
def k0_off104 (i : grid0.Coords) : Fin 2 → Nat :=
  let arg0 : BitVec 32 := BitVec.ofNat 32 (i 0).val
  let v2247 : Index := Scalar.indexCast arg0
  let c103 : Index := 103#32
  ![v2247.toNat, 103]
def k0_off105 (i : grid0.Coords) : Fin 2 → Nat :=
  let arg0 : BitVec 32 := BitVec.ofNat 32 (i 0).val
  let v2258 : Index := Scalar.indexCast arg0
  let c104 : Index := 104#32
  ![v2258.toNat, 104]
def k0_off106 (i : grid0.Coords) : Fin 2 → Nat :=
  let arg0 : BitVec 32 := BitVec.ofNat 32 (i 0).val
  let v2269 : Index := Scalar.indexCast arg0
  let c105 : Index := 105#32
  ![v2269.toNat, 105]
def k0_off107 (i : grid0.Coords) : Fin 2 → Nat :=
  let arg0 : BitVec 32 := BitVec.ofNat 32 (i 0).val
  let v2280 : Index := Scalar.indexCast arg0
  let c106 : Index := 106#32
  ![v2280.toNat, 106]
def k0_off108 (i : grid0.Coords) : Fin 2 → Nat :=
  let arg0 : BitVec 32 := BitVec.ofNat 32 (i 0).val
  let v2291 : Index := Scalar.indexCast arg0
  let c107 : Index := 107#32
  ![v2291.toNat, 107]
def k0_off109 (i : grid0.Coords) : Fin 2 → Nat :=
  let arg0 : BitVec 32 := BitVec.ofNat 32 (i 0).val
  let v2302 : Index := Scalar.indexCast arg0
  let c108 : Index := 108#32
  ![v2302.toNat, 108]
def k0_off110 (i : grid0.Coords) : Fin 2 → Nat :=
  let arg0 : BitVec 32 := BitVec.ofNat 32 (i 0).val
  let v2313 : Index := Scalar.indexCast arg0
  let c109 : Index := 109#32
  ![v2313.toNat, 109]
def k0_off111 (i : grid0.Coords) : Fin 2 → Nat :=
  let arg0 : BitVec 32 := BitVec.ofNat 32 (i 0).val
  let v2324 : Index := Scalar.indexCast arg0
  let c110 : Index := 110#32
  ![v2324.toNat, 110]
def k0_off112 (i : grid0.Coords) : Fin 2 → Nat :=
  let arg0 : BitVec 32 := BitVec.ofNat 32 (i 0).val
  let v2335 : Index := Scalar.indexCast arg0
  let c111 : Index := 111#32
  ![v2335.toNat, 111]
def k0_off113 (i : grid0.Coords) : Fin 2 → Nat :=
  let arg0 : BitVec 32 := BitVec.ofNat 32 (i 0).val
  let v2346 : Index := Scalar.indexCast arg0
  let c112 : Index := 112#32
  ![v2346.toNat, 112]
def k0_off114 (i : grid0.Coords) : Fin 2 → Nat :=
  let arg0 : BitVec 32 := BitVec.ofNat 32 (i 0).val
  let v2357 : Index := Scalar.indexCast arg0
  let c113 : Index := 113#32
  ![v2357.toNat, 113]
def k0_off115 (i : grid0.Coords) : Fin 2 → Nat :=
  let arg0 : BitVec 32 := BitVec.ofNat 32 (i 0).val
  let v2368 : Index := Scalar.indexCast arg0
  let c114 : Index := 114#32
  ![v2368.toNat, 114]
def k0_off116 (i : grid0.Coords) : Fin 2 → Nat :=
  let arg0 : BitVec 32 := BitVec.ofNat 32 (i 0).val
  let v2379 : Index := Scalar.indexCast arg0
  let c115 : Index := 115#32
  ![v2379.toNat, 115]
def k0_off117 (i : grid0.Coords) : Fin 2 → Nat :=
  let arg0 : BitVec 32 := BitVec.ofNat 32 (i 0).val
  let v2390 : Index := Scalar.indexCast arg0
  let c116 : Index := 116#32
  ![v2390.toNat, 116]
def k0_off118 (i : grid0.Coords) : Fin 2 → Nat :=
  let arg0 : BitVec 32 := BitVec.ofNat 32 (i 0).val
  let v2401 : Index := Scalar.indexCast arg0
  let c117 : Index := 117#32
  ![v2401.toNat, 117]
def k0_off119 (i : grid0.Coords) : Fin 2 → Nat :=
  let arg0 : BitVec 32 := BitVec.ofNat 32 (i 0).val
  let v2412 : Index := Scalar.indexCast arg0
  let c118 : Index := 118#32
  ![v2412.toNat, 118]
def k0_off120 (i : grid0.Coords) : Fin 2 → Nat :=
  let arg0 : BitVec 32 := BitVec.ofNat 32 (i 0).val
  let v2423 : Index := Scalar.indexCast arg0
  let c119 : Index := 119#32
  ![v2423.toNat, 119]
def k0_off121 (i : grid0.Coords) : Fin 2 → Nat :=
  let arg0 : BitVec 32 := BitVec.ofNat 32 (i 0).val
  let v2434 : Index := Scalar.indexCast arg0
  let c120 : Index := 120#32
  ![v2434.toNat, 120]
def k0_off122 (i : grid0.Coords) : Fin 2 → Nat :=
  let arg0 : BitVec 32 := BitVec.ofNat 32 (i 0).val
  let v2445 : Index := Scalar.indexCast arg0
  let c121 : Index := 121#32
  ![v2445.toNat, 121]
def k0_off123 (i : grid0.Coords) : Fin 2 → Nat :=
  let arg0 : BitVec 32 := BitVec.ofNat 32 (i 0).val
  let v2456 : Index := Scalar.indexCast arg0
  let c122 : Index := 122#32
  ![v2456.toNat, 122]
def k0_off124 (i : grid0.Coords) : Fin 2 → Nat :=
  let arg0 : BitVec 32 := BitVec.ofNat 32 (i 0).val
  let v2467 : Index := Scalar.indexCast arg0
  let c123 : Index := 123#32
  ![v2467.toNat, 123]
def k0_off125 (i : grid0.Coords) : Fin 2 → Nat :=
  let arg0 : BitVec 32 := BitVec.ofNat 32 (i 0).val
  let v2478 : Index := Scalar.indexCast arg0
  let c124 : Index := 124#32
  ![v2478.toNat, 124]
def k0_off126 (i : grid0.Coords) : Fin 2 → Nat :=
  let arg0 : BitVec 32 := BitVec.ofNat 32 (i 0).val
  let v2489 : Index := Scalar.indexCast arg0
  let c125 : Index := 125#32
  ![v2489.toNat, 125]
def k0_off127 (i : grid0.Coords) : Fin 2 → Nat :=
  let arg0 : BitVec 32 := BitVec.ofNat 32 (i 0).val
  let v2500 : Index := Scalar.indexCast arg0
  let c126 : Index := 126#32
  ![v2500.toNat, 126]
def k0_off128 (i : grid0.Coords) : Fin 2 → Nat :=
  let arg0 : BitVec 32 := BitVec.ofNat 32 (i 0).val
  let v2511 : Index := Scalar.indexCast arg0
  let c127 : Index := 127#32
  ![v2511.toNat, 127]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x3072x1024 : Shape := ⟨3, ![16, 3072, 1024]⟩
abbrev S16x1024x2048 : Shape := ⟨3, ![16, 1024, 2048]⟩
abbrev S16x8x16 : Shape := ⟨3, ![16, 8, 16]⟩
abbrev S16x3072x2048 : Shape := ⟨3, ![16, 3072, 2048]⟩
abbrev S16x3072x8 : Shape := ⟨3, ![16, 3072, 8]⟩
abbrev S16x3072x8x128 : Shape := ⟨4, ![16, 3072, 8, 128]⟩
abbrev S16x3072x8x246 : Shape := ⟨4, ![16, 3072, 8, 246]⟩
abbrev S16x3072x8x1 : Shape := ⟨4, ![16, 3072, 8, 1]⟩
abbrev S16x8x128x16x128 : Shape := ⟨5, ![16, 8, 128, 16, 128]⟩
abbrev S16x8x1x16x1 : Shape := ⟨5, ![16, 8, 1, 16, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x3072x1024, .bf16⟩
  | .hbm, ⟨1, _⟩ => ⟨S16x1024x2048, .fp8e4m3⟩
  | .hbm, ⟨2, _⟩ => ⟨S16x8x16, .f32⟩
  | .hbm, ⟨3, _⟩ => ⟨S16x3072x2048, .bf16⟩
  | .hbm, ⟨4, _⟩ => ⟨S16x3072x1024, .fp8e4m3⟩
  | .hbm, ⟨5, _⟩ => ⟨S16x3072x8, .f32⟩
  | .local _ .vmem, ⟨0, _⟩ => ⟨S16x3072x1024, .bf16⟩
  | .local _ .vmem, ⟨1, _⟩ => ⟨S16x1024x2048, .fp8e4m3⟩
  | .local _ .vmem, ⟨2, _⟩ => ⟨S16x8x16, .f32⟩
  | .local _ .vmem, ⟨3, _⟩ => ⟨S16x3072x2048, .bf16⟩
  | .local _ .vmem, ⟨4, _⟩ => ⟨S16x3072x1024, .fp8e4m3⟩
  | .local _ .vmem, ⟨5, _⟩ => ⟨S16x3072x8, .f32⟩
  | _, _ => ⟨S16x3072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x3072x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x3072x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x3072x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Group.lean ====
/-
  One group of 128 lanes, as the kernel's body computes it.

  The body treats eight groups of 128 lanes one after another, each by the same operations on other lanes of the token
  block. Here the operations are written once, over the block of one group (512 tokens by 128 lanes), and the body's
  eight stores of codes, its eight stores of rescaled codes and its one store of scales are lists of these.
-/
module

public import proofs.«01_k».proof.Proof.Gen.KernelIdeal.Frame
public import Idealize.ShloMosaic.Lib.Pipeline.Value
public import Idealize.ShloMosaic.Lib.Pipeline.ReadBack
public import Idealize.ShloMosaic.Lib.Tactic

@[expose] public section

noncomputable section

open Idealize.ShloMosaic Idealize.ShloMosaic.TcCoe Idealize.SL.Sem

namespace Cert.KernelIdeal.Value

open Cert.KernelIdeal Cert.KernelIdeal.Gen

variable {F : FTy → Type} [FloatOps F]

/-- The 128 lanes of group `g` of a token block. -/
abbrev groupRect (o : ℕ) (h : ∀ a, (![0, 0, o] : Fin 3 → ℕ) a + S1x512x128.size a ≤ S1x512x1024.size a) : Rect S1x512x1024 :=
  Rect.unit (s := S1x512x1024) ![0, 0, o] S1x512x128.size h

/-- The largest magnitude of each token's 128 lanes. -/
def gMax (v : Vec F S1x512x128 .bf16) : FVec F S512x1 .f32 :=
  shapeCast S512x1 (multiReduction .maximumf [1] S512
    (extf .f32 (absf (shapeCast S512x128 v shapeCasts_S1x512x128_S512x128)) bitsLt_bf16_f32)
    0xFF800000#32 reduces_S512x128_S512 (.inl rfl) rfl) shapeCasts_S512_S512x1

/-- One step of the exponent search: `s` is added to the count when the magnitude is at least `1.75 · 2^(c + s - 128)`. -/
def step (a : FVec F S512x1 .f32) (s : BitVec 32) (c : IVec S512x1 32) : IVec S512x1 32 :=
  select (cmpf .oge a (bitcastToFloat .f32
    (subi (shli (addi c (broadcast S512x1 s)) (broadcast S512x1 23#32)) (broadcast S512x1 2097152#32))))
    (addi c (broadcast S512x1 s)) c

/-- The search's result after its eight steps. -/
def count (a : FVec F S512x1 .f32) : IVec S512x1 32 :=
  step a 1#32 (step a 2#32 (step a 4#32 (step a 8#32 (step a 16#32 (step a 32#32 (step a 64#32
    (step a 128#32 (broadcast S512x1 0#32))))))))

/-- The scale's biased exponent: `127` (the scale one) at a magnitude too small or not finite. -/
def biased (a : FVec F S512x1 .f32) : IVec S512x1 32 :=
  select (ori (cmpi .slt (subi (count a) (broadcast S512x1 8#32)) (broadcast S512x1 2#32))
      (cmpf .ogt a (broadcast S512x1 (Scalar.ofBits .f32 0x7F7FFFFF#32))))
    (broadcast S512x1 127#32) (subi (count a) (broadcast S512x1 8#32))

/-- Each token's scale. -/
def gScale (v : Vec F S1x512x128 .bf16) : FVec F S512x1 .f32 :=
  bitcastToFloat .f32 (shli (biased (gMax v)) (broadcast S512x1 23#32))

/-- Each token's reciprocal scale. -/
def gInv (v : Vec F S1x512x128 .bf16) : FVec F S512x1 .f32 :=
  bitcastToFloat .f32 (shli (subi (broadcast S512x1 254#32) (biased (gMax v))) (broadcast S512x1 23#32))

/-- The group's codes. -/
def gCodes (v : Vec F S1x512x128 .bf16) : FVec F S512x128 .fp8e4m3 :=
  truncf .fp8e4m3 (minimumf (broadcast S512x128 (Scalar.truncf .bf16 bitsLt_bf16_f32 (Scalar.ofBits .f32 0x43E00000#32)))
    (maximumf (broadcast S512x128 (Scalar.truncf .bf16 bitsLt_bf16_f32 (Scalar.ofBits .f32 0xC3E00000#32)))
      (mulf (shapeCast S512x128 v shapeCasts_S1x512x128_S512x128)
        (broadcastTo S512x128 (truncf .bf16 (gInv v) bitsLt_bf16_f32) broadcasts_S512x1_S512x128)))) bitsLt_fp8e4m3_bf16

/-- The group's codes times their scales. -/
def gDeq (v : Vec F S1x512x128 .bf16) : FVec F S512x128 .bf16 :=
  mulf (extf .bf16 (gCodes v) bitsLt_fp8e4m3_bf16)
    (broadcastTo S512x128 (truncf .bf16 (gScale v) bitsLt_bf16_f32) broadcasts_S512x1_S512x128)

/-- The scales of group `g` set into lane `g` of the block of scales `p`. -/
def gSet (g : BitVec 32) (v : Vec F S1x512x128 .bf16) (p : FVec F S512x8 .f32) : FVec F S512x8 .f32 :=
  select (cmpi .eq (iota .tc S512x8 32 [1] iota_S512x8_d1_w32) (broadcast S512x8 g))
    (broadcastTo S512x8 (shapeCast S512x1 (gScale v) shapeCasts_S512x1_S512x1) broadcasts_S512x1_S512x8) p

/-- The piece of codes a group stores. -/
abbrev codePiece (x : Vec F S1x512x1024 .bf16) (o : ℕ) (h : ∀ a, (![0, 0, o] : Fin 3 → ℕ) a + S1x512x128.size a ≤ S1x512x1024.size a) :
    View.Piece (Elt F) S1x512x1024 .fp8e4m3 :=
  ⟨groupRect o h, shapeCast S1x512x128 (gCodes (View.ld x (groupRect o h))) shapeCasts_S512x128_S1x512x128⟩

/-- The piece of rescaled codes a group stores. -/
abbrev deqPiece (x : Vec F S1x512x1024 .bf16) (o : ℕ) (h : ∀ a, (![0, 0, o] : Fin 3 → ℕ) a + S1x512x128.size a ≤ S1x512x1024.size a)
    (h' : ∀ a, (![0, o] : Fin 2 → ℕ) a + S512x128.size a ≤ S512x1024.size a) : View.Piece (Elt F) S512x1024 .bf16 :=
  ⟨Rect.unit (s := S512x1024) ![0, o] S512x128.size h',
    shapeCast S512x128 (gDeq (View.ld x (groupRect o h))) shapeCasts_S512x128_S512x128⟩

/-- The eight stores of codes, the last one first. -/
abbrev codePieces (x : Vec F S1x512x1024 .bf16) : List (View.Piece (Elt F) S1x512x1024 .fp8e4m3) :=
  [codePiece x 896 inb_S1x512x1024_S1x512x128_0_0_896, codePiece x 768 inb_S1x512x1024_S1x512x128_0_0_768,
   codePiece x 640 inb_S1x512x1024_S1x512x128_0_0_640, codePiece x 512 inb_S1x512x1024_S1x512x128_0_0_512,
   codePiece x 384 inb_S1x512x1024_S1x512x128_0_0_384, codePiece x 256 inb_S1x512x1024_S1x512x128_0_0_256,
   codePiece x 128 inb_S1x512x1024_S1x512x128_0_0_128, codePiece x 0 inb_S1x512x1024_S1x512x128_0_0_0]

/-- The eight stores of rescaled codes, the last one first. -/
abbrev deqPieces (x : Vec F S1x512x1024 .bf16) : List (View.Piece (Elt F) S512x1024 .bf16) :=
  [deqPiece x 896 inb_S1x512x1024_S1x512x128_0_0_896 inb_S512x1024_S512x128_0_896,
   deqPiece x 768 inb_S1x512x1024_S1x512x128_0_0_768 inb_S512x1024_S512x128_0_768,
   deqPiece x 640 inb_S1x512x1024_S1x512x128_0_0_640 inb_S512x1024_S512x128_0_640,
   deqPiece x 512 inb_S1x512x1024_S1x512x128_0_0_512 inb_S512x1024_S512x128_0_512,
   deqPiece x 384 inb_S1x512x1024_S1x512x128_0_0_384 inb_S512x1024_S512x128_0_384,
   deqPiece x 256 inb_S1x512x1024_S1x512x128_0_0_256 inb_S512x1024_S512x128_0_256,
   deqPiece x 128 inb_S1x512x1024_S1x512x128_0_0_128 inb_S512x1024_S512x128_0_128,
   deqPiece x 0 inb_S1x512x1024_S1x512x128_0_0_0 inb_S512x1024_S512x128_0_0]

/-- The block of scales, tokens by groups: lane after lane set. -/
def scales (x : Vec F S1x512x1024 .bf16) : FVec F S512x8 .f32 :=
  gSet 7#32 (View.ld x (groupRect 896 inb_S1x512x1024_S1x512x128_0_0_896)) <|
  gSet 6#32 (View.ld x (groupRect 768 inb_S1x512x1024_S1x512x128_0_0_768)) <|
  gSet 5#32 (View.ld x (groupRect 640 inb_S1x512x1024_S1x512x128_0_0_640)) <|
  gSet 4#32 (View.ld x (groupRect 512 inb_S1x512x1024_S1x512x128_0_0_512)) <|
  gSet 3#32 (View.ld x (groupRect 384 inb_S1x512x1024_S1x512x128_0_0_384)) <|
  gSet 2#32 (View.ld x (groupRect 256 inb_S1x512x1024_S1x512x128_0_0_256)) <|
  gSet 1#32 (View.ld x (groupRect 128 inb_S1x512x1024_S1x512x128_0_0_128)) <|
  gSet 0#32 (View.ld x (groupRect 0 inb_S1x512x1024_S1x512x128_0_0_0)) <|
  broadcast S512x8 (Scalar.ofBits .f32 0x00000000#32)

end Cert.KernelIdeal.Value

end
-- ==== Proof.Body.lean ====
/-
  What one run of the body leaves in the blocks of codes and of scales.

  At a head's first block the body also writes the rescaled weights (case A); at its others it finds them (case B).
-/
module

public import proofs.«01_k».proof.Proof.Group

@[expose] public section

noncomputable section

open Idealize.ShloMosaic Idealize.ShloMosaic.TcCoe Idealize.SL.Sem

namespace Cert.KernelIdeal.Value

open Cert.KernelIdeal Cert.KernelIdeal.Gen

variable {F : FTy → Type} [FloatOps F]

theorem hz3 : (![0, 0, 0] : Fin 3 → ℕ) = fun _ => 0 := funext fun a => by fin_cases a <;> rfl

set_option maxRecDepth 16384 in
theorem out_A_4 (c : Dev nD) (i : grid0.Coords) (arg2 : Memref sig .tc .smem S16x128 .f32) (harg2 : arg2.IsWhole)
    (arg3 : Memref sig .tc .vmem S1x512x1024 .bf16) (harg3 : arg3.IsWhole) (arg4 : Memref sig .tc .vmem S1x1024x2048 .fp8e4m3) (harg4 : arg4.IsWhole)
    (arg5 : Memref sig .tc .vmem S1x512x2048 .bf16) (harg5 : arg5.IsWhole) (arg6 : Memref sig .tc .vmem S1x512x1024 .fp8e4m3) (harg6 : arg6.IsWhole)
    (arg7 : Memref sig .tc .vmem S1x8x512 .f32) (harg7 : arg7.IsWhole) (arg8 : Memref sig .tc .vmem S1024x2048 .bf16) (harg8 : arg8.IsWhole)
    (arg9 : Memref sig .tc .vmem S512x1024 .bf16) (harg9 : arg9.IsWhole)
    (hc0 : cond0_0 i) (x0 : Vec F S16x128 .f32) (x1 : Vec F S1x512x1024 .bf16) (x2 : Vec F S1x1024x2048 .fp8e4m3) :
    out0_A_4 c i arg2 harg2 arg3 harg3 arg4 harg4 arg5 harg5 arg6 harg6 arg7 harg7 arg8 harg8 arg9 harg9 hc0 x0 x1 x2 = View.canon (codePieces x1) := by
  unfold out0_A_4 kernelRun0_A
  dsimp only
  rw [View.read_writes_junk_eq_canon]
  sl_unfold_words
  simp only [View.readAt_eq_ld, harg3.read_unread]
  rfl

set_option maxRecDepth 16384 in
theorem out_A_5 (c : Dev nD) (i : grid0.Coords) (arg2 : Memref sig .tc .smem S16x128 .f32) (harg2 : arg2.IsWhole)
    (arg3 : Memref sig .tc .vmem S1x512x1024 .bf16) (harg3 : arg3.IsWhole) (arg4 : Memref sig .tc .vmem S1x1024x2048 .fp8e4m3) (harg4 : arg4.IsWhole)
    (arg5 : Memref sig .tc .vmem S1x512x2048 .bf16) (harg5 : arg5.IsWhole) (arg6 : Memref sig .tc .vmem S1x512x1024 .fp8e4m3) (harg6 : arg6.IsWhole)
    (arg7 : Memref sig .tc .vmem S1x8x512 .f32) (harg7 : arg7.IsWhole) (arg8 : Memref sig .tc .vmem S1024x2048 .bf16) (harg8 : arg8.IsWhole)
    (arg9 : Memref sig .tc .vmem S512x1024 .bf16) (harg9 : arg9.IsWhole)
    (hc0 : cond0_0 i) (x0 : Vec F S16x128 .f32) (x1 : Vec F S1x512x1024 .bf16) (x2 : Vec F S1x1024x2048 .fp8e4m3) :
    out0_A_5 c i arg2 harg2 arg3 harg3 arg4 harg4 arg5 harg5 arg6 harg6 arg7 harg7 arg8 harg8 arg9 harg9 hc0 x0 x1 x2 = shapeCast S1x8x512 (transpose S8x512 [1, 0] (scales x1) transposes_S512x8_p1_0_S8x512) shapeCasts_S8x512_S1x8x512 := by
  unfold out0_A_5 kernelRun0_A
  dsimp only
  rw [View.read_writes_junk_eq_canon]
  sl_unfold_words
  simp only [View.readAt_eq_ld, harg3.read_unread]
  rw [View.canon_unit_zero hz3]
  rfl

set_option maxRecDepth 16384 in
theorem out_B_4 (c : Dev nD) (i : grid0.Coords) (arg2 : Memref sig .tc .smem S16x128 .f32) (harg2 : arg2.IsWhole)
    (arg3 : Memref sig .tc .vmem S1x512x1024 .bf16) (harg3 : arg3.IsWhole) (arg4 : Memref sig .tc .vmem S1x1024x2048 .fp8e4m3) (harg4 : arg4.IsWhole)
    (arg5 : Memref sig .tc .vmem S1x512x2048 .bf16) (harg5 : arg5.IsWhole) (arg6 : Memref sig .tc .vmem S1x512x1024 .fp8e4m3) (harg6 : arg6.IsWhole)
    (arg7 : Memref sig .tc .vmem S1x8x512 .f32) (harg7 : arg7.IsWhole) (arg8 : Memref sig .tc .vmem S1024x2048 .bf16) (harg8 : arg8.IsWhole)
    (arg9 : Memref sig .tc .vmem S512x1024 .bf16) (harg9 : arg9.IsWhole)
    (hc0 : ¬cond0_0 i) (x0 : Vec F S16x128 .f32) (x1 : Vec F S1x512x1024 .bf16) (x2 : Vec F S1x1024x2048 .fp8e4m3) (xs0 : Vec F S1024x2048 .bf16) :
    out0_B_4 c i arg2 harg2 arg3 harg3 arg4 harg4 arg5 harg5 arg6 harg6 arg7 harg7 arg8 harg8 arg9 harg9 hc0 x0 x1 x2 xs0 = View.canon (codePieces x1) := by
  unfold out0_B_4 kernelRun0_B
  dsimp only
  rw [View.read_writes_junk_eq_canon]
  sl_unfold_words
  simp only [View.readAt_eq_ld, harg3.read_unread]
  rfl

set_option maxRecDepth 16384 in
theorem out_B_5 (c : Dev nD) (i : grid0.Coords) (arg2 : Memref sig .tc .smem S16x128 .f32) (harg2 : arg2.IsWhole)
    (arg3 : Memref sig .tc .vmem S1x512x1024 .bf16) (harg3 : arg3.IsWhole) (arg4 : Memref sig .tc .vmem S1x1024x2048 .fp8e4m3) (harg4 : arg4.IsWhole)
    (arg5 : Memref sig .tc .vmem S1x512x2048 .bf16) (harg5 : arg5.IsWhole) (arg6 : Memref sig .tc .vmem S1x512x1024 .fp8e4m3) (harg6 : arg6.IsWhole)
    (arg7 : Memref sig .tc .vmem S1x8x512 .f32) (harg7 : arg7.IsWhole) (arg8 : Memref sig .tc .vmem S1024x2048 .bf16) (harg8 : arg8.IsWhole)
    (arg9 : Memref sig .tc .vmem S512x1024 .bf16) (harg9 : arg9.IsWhole)
    (hc0 : ¬cond0_0 i) (x0 : Vec F S16x128 .f32) (x1 : Vec F S1x512x1024 .bf16) (x2 : Vec F S1x1024x2048 .fp8e4m3) (xs0 : Vec F S1024x2048 .bf16) :
    out0_B_5 c i arg2 harg2 arg3 harg3 arg4 harg4 arg5 harg5 arg6 harg6 arg7 harg7 arg8 harg8 arg9 harg9 hc0 x0 x1 x2 xs0 = shapeCast S1x8x512 (transpose S8x512 [1, 0] (scales x1) transposes_S512x8_p1_0_S8x512) shapeCasts_S8x512_S1x8x512 := by
  unfold out0_B_5 kernelRun0_B
  dsimp only
  rw [View.read_writes_junk_eq_canon]
  sl_unfold_words
  simp only [View.readAt_eq_ld, harg3.read_unread]
  rw [View.canon_unit_zero hz3]
  rfl

end Cert.KernelIdeal.Value

end
-- ==== Proof.Weights.lean ====
/-
  The rescaled weights, and the product.

  At a head's first block the body writes the head's weights times their scales into a scratch buffer, in 128 square
  blocks; every block of the head then multiplies its rescaled codes by what the buffer holds.
-/
module

public import proofs.«01_k».proof.Proof.Body
public import Idealize.ShloMosaic.Lib.Pointwise

@[expose] public section

noncomputable section

open Idealize.ShloMosaic Idealize.ShloMosaic.TcCoe Idealize.SL.Sem

namespace Cert.KernelIdeal.Value

open Cert.KernelIdeal Cert.KernelIdeal.Gen

/-- One square block of weights times its scale. -/
def wBlock (v : Vec Ideal S1x128x128 .fp8e4m3) (s : Elt Ideal .f32) : FVec Ideal S128x128 .bf16 :=
  mulf (extf .bf16 (shapeCast S128x128 v shapeCasts_S1x128x128_S128x128) bitsLt_fp8e4m3_bf16)
    (broadcast S128x128 (Scalar.truncf .bf16 bitsLt_bf16_f32 s))

/-- The square block that holds weight `(k, n)`, counted row by row. -/
def wNum (k : Fin 1024) (n : Fin 2048) : Fin 128 := ⟨k.val / 128 * 16 + n.val / 128, by omega⟩

/-- The rescaled weights of head `h`: each weight times the scale of its square block. -/
def wFull (x0 : Vec Ideal S16x128 .f32) (x2 : Vec Ideal S1x1024x2048 .fp8e4m3) (h : Fin 16) : S1024x2048.Idx → EReal :=
  fun y => x2 (ix3 (0 : Fin 1) (y 0) (y 1)) * x0 (ix2 h (wNum (y 0) (y 1)))

/-- One store of a square block is a block of the rescaled weights. -/
theorem wBlock_ok (x0 : Vec Ideal S16x128 .f32) (x2 : Vec Ideal S1x1024x2048 .fp8e4m3) (h : Fin 16) (p q : ℕ)
    (off : Fin 2 → ℕ) (h0 : ∀ a, off a + S1x1.size a ≤ S16x128.size a)
    (h2 : ∀ a, (![0, p, q] : Fin 3 → ℕ) a + S1x128x128.size a ≤ S1x1024x2048.size a)
    (h8 : ∀ a, (![p, q] : Fin 2 → ℕ) a + S128x128.size a ≤ S1024x2048.size a) (i1 : S1x1.Idx)
    (e0 : off 0 = h) (e1 : off 1 = p / 128 * 16 + q / 128) (hp : p % 128 = 0) (hq : q % 128 = 0)
    (x : (Rect.unit (s := S1024x2048) ![p, q] S128x128.size h8).shape.Idx) :
    shapeCast S128x128 (wBlock (View.ld x2 (Rect.unit (s := S1x1024x2048) ![0, p, q] S1x128x128.size h2))
      (View.ld x0 (Rect.unit (s := S16x128) off S1x1.size h0) i1)) shapeCasts_S128x128_S128x128 x
      = wFull x0 x2 h ((Rect.unit (s := S1024x2048) ![p, q] S128x128.size h8).emb x) := by
  have hx0 : (x 0 : ℕ) < 128 := (x 0).isLt
  have hx1 : (x 1 : ℕ) < 128 := (x 1).isLt
  have hz0 : (i1 0 : ℕ) = 0 := by have : (i1 0 : ℕ) < 1 := (i1 0).isLt; omega
  have hz1 : (i1 1 : ℕ) = 0 := by have : (i1 1 : ℕ) < 1 := (i1 1).isLt; omega
  rw [shapeCast_self]
  unfold wFull wBlock
  pointwise
  refine congrArg₂ (· * ·) (congrArg x2 (funext fun a => Fin.ext ?_)) (congrArg x0 (funext fun a => Fin.ext ?_))
  · fin_cases a
    · rfl
    · show p + (x 0 : ℕ) = p + 1 * (x 0 : ℕ); omega
    · show q + (x 1 : ℕ) = q + 1 * (x 1 : ℕ); omega
  · fin_cases a
    · exact e0
    · show off 1 = (p + 1 * (x 0 : ℕ)) / 128 * 16 + (q + 1 * (x 1 : ℕ)) / 128
      omega

/-- A block of `G` before blocks of `G`. -/
theorem piecesOf_cons {Val : EltTy → Type} {s : Shape} {e : EltTy} {G : s.Idx → Val e} {r : Rect s} {w : r.shape.Idx → Val e}
    {L : List (View.Piece Val s e)} (h : ∀ x, w x = G (r.emb x)) (hL : View.PiecesOf G L) : View.PiecesOf G (⟨r, w⟩ :: L) := ⟨h, hL⟩

/-- Pieces that are blocks of `G` and cover it leave `G`. -/
theorem canon_of_piecesOf {Val : EltTy → Type} [∀ e, Nonempty (Val e)] {s : Shape} {e : EltTy} (G : s.Idx → Val e)
    (L : List (View.Piece Val s e)) (h : View.PiecesOf G L) (hc : ∀ y, ∃ p ∈ L, y ∈ p.1.set) : View.canon L = G :=
  funext fun y => by
    have := View.canon_append_of_piecesOf G [] L h y (hc y)
    rwa [List.append_nil] at this

/-- The product of a block of rescaled codes with rescaled weights. -/
def yBlock (a : FVec Ideal S512x1024 .bf16) (b : FVec Ideal S1024x2048 .bf16) : FVec Ideal S1x512x2048 .bf16 :=
  shapeCast S1x512x2048 (truncf .bf16 (matmul dot_S512x1024_S1024x2048_S512x2048_1_0_0_1_n_n none a b
    (constant S512x2048 .f32 0x00000000#32)) bitsLt_bf16_f32) shapeCasts_S512x2048_S1x512x2048

theorem hz2 : (![0, 0] : Fin 2 → ℕ) = fun _ => 0 := funext fun a => by fin_cases a <;> rfl

theorem readCov_whole {Val : EltTy → Type} [∀ e, Nonempty (Val e)] {sig : RefSig} {κ : Kind} {sp : Space} {s : Shape} {e : EltTy}
    (v : View sig κ sp s e) (L : List (View.Piece Val s e)) {off : Fin s.rank → ℕ} (h : off = fun _ => 0)
    (inb : ∀ a, off a + s.size a ≤ s.size a) :
    v.readCov L (Rect.unit off s.size inb).toLoadRect = View.canon L := by
  rw [View.readCov_eq_canon']
  subst h
  exact View.ld_unit_zero (S := s) rfl _ _

set_option maxRecDepth 16384 in
/-- A head's first block leaves the head's rescaled weights in the scratch buffer. -/
theorem sout_A (c : Dev nD) (i : grid0.Coords) (arg2 : Memref sig .tc .smem S16x128 .f32) (harg2 : arg2.IsWhole)
    (arg3 : Memref sig .tc .vmem S1x512x1024 .bf16) (harg3 : arg3.IsWhole) (arg4 : Memref sig .tc .vmem S1x1024x2048 .fp8e4m3) (harg4 : arg4.IsWhole)
    (arg5 : Memref sig .tc .vmem S1x512x2048 .bf16) (harg5 : arg5.IsWhole) (arg6 : Memref sig .tc .vmem S1x512x1024 .fp8e4m3) (harg6 : arg6.IsWhole)
    (arg7 : Memref sig .tc .vmem S1x8x512 .f32) (harg7 : arg7.IsWhole) (arg8 : Memref sig .tc .vmem S1024x2048 .bf16) (harg8 : arg8.IsWhole)
    (arg9 : Memref sig .tc .vmem S512x1024 .bf16) (harg9 : arg9.IsWhole)
    (hc0 : cond0_0 i) (x0 : Vec Ideal S16x128 .f32) (x1 : Vec Ideal S1x512x1024 .bf16) (x2 : Vec Ideal S1x1024x2048 .fp8e4m3)
    (h : Fin 16) (hh : (i 0 : ℕ) = h) :
    sout0_A_0 (F := Ideal) c i arg2 harg2 arg3 harg3 arg4 harg4 arg5 harg5 arg6 harg6 arg7 harg7 arg8 harg8 arg9 harg9 hc0 x0 x1 x2 = wFull x0 x2 h := by
  have e0 : BitVec.toNat (Scalar.indexCast (BitVec.ofNat 32 (i 0 : ℕ))) = h := by
    have := h.isLt
    rw [Scalar.indexCast, hh, BitVec.toNat_ofNat]; omega
  unfold sout0_A_0
  rw [View.read_writes_junk_eq_canon]
  refine canon_of_piecesOf _ _ ?_ (scover0_A_0 c i arg2 harg2 arg3 harg3 arg4 harg4 arg5 harg5 arg6 harg6 arg7 harg7 arg8 harg8 arg9 harg9 hc0 x0 x1 x2)
  unfold kernelRun0_A
  dsimp only
  sl_unfold_words
  simp only [View.readAt_eq_ld, harg2.read_unread, harg4.read_unread]
  repeat' first
    | exact trivial
    | refine piecesOf_cons (fun x => wBlock_ok x0 x2 h _ _ _ _ _ _ _ e0 rfl rfl rfl x) ?_

set_option maxRecDepth 16384 in
/-- A head's first block leaves the product of its rescaled codes with the weights it has just rescaled. -/
theorem out_A_3 (c : Dev nD) (i : grid0.Coords) (arg2 : Memref sig .tc .smem S16x128 .f32) (harg2 : arg2.IsWhole)
    (arg3 : Memref sig .tc .vmem S1x512x1024 .bf16) (harg3 : arg3.IsWhole) (arg4 : Memref sig .tc .vmem S1x1024x2048 .fp8e4m3) (harg4 : arg4.IsWhole)
    (arg5 : Memref sig .tc .vmem S1x512x2048 .bf16) (harg5 : arg5.IsWhole) (arg6 : Memref sig .tc .vmem S1x512x1024 .fp8e4m3) (harg6 : arg6.IsWhole)
    (arg7 : Memref sig .tc .vmem S1x8x512 .f32) (harg7 : arg7.IsWhole) (arg8 : Memref sig .tc .vmem S1024x2048 .bf16) (harg8 : arg8.IsWhole)
    (arg9 : Memref sig .tc .vmem S512x1024 .bf16) (harg9 : arg9.IsWhole)
    (hc0 : cond0_0 i) (x0 : Vec Ideal S16x128 .f32) (x1 : Vec Ideal S1x512x1024 .bf16) (x2 : Vec Ideal S1x1024x2048 .fp8e4m3) :
    out0_A_3 (F := Ideal) c i arg2 harg2 arg3 harg3 arg4 harg4 arg5 harg5 arg6 harg6 arg7 harg7 arg8 harg8 arg9 harg9 hc0 x0 x1 x2
      = yBlock (View.canon (deqPieces x1)) (sout0_A_0 (F := Ideal) c i arg2 harg2 arg3 harg3 arg4 harg4 arg5 harg5 arg6 harg6 arg7 harg7 arg8 harg8 arg9 harg9 hc0 x0 x1 x2) := by
  unfold sout0_A_0
  rw [View.read_writes_junk_eq_canon]
  unfold out0_A_3
  rw [View.read_writes_junk_eq_canon]
  rw [← readCov_whole arg8.view (kernelRun0_A c i arg2 harg2 arg3 harg3 arg4 harg4 arg5 harg5 arg6 harg6 arg7 harg7 arg8 harg8 arg9 harg9 hc0 x0 x1 x2).2.2.2.1 hz2 inb_S1024x2048_S1024x2048_0_0,
    ← readCov_whole arg9.view (deqPieces x1) hz2 inb_S512x1024_S512x1024_0_0]
  unfold kernelRun0_A
  dsimp only
  rw [View.canon_unit_zero hz3]
  sl_unfold_words
  simp only [View.readAt_eq_ld, harg3.read_unread]
  rfl

set_option maxRecDepth 16384 in
/-- Every other block leaves the product of its rescaled codes with the weights the scratch buffer holds. -/
theorem out_B_3 (c : Dev nD) (i : grid0.Coords) (arg2 : Memref sig .tc .smem S16x128 .f32) (harg2 : arg2.IsWhole)
    (arg3 : Memref sig .tc .vmem S1x512x1024 .bf16) (harg3 : arg3.IsWhole) (arg4 : Memref sig .tc .vmem S1x1024x2048 .fp8e4m3) (harg4 : arg4.IsWhole)
    (arg5 : Memref sig .tc .vmem S1x512x2048 .bf16) (harg5 : arg5.IsWhole) (arg6 : Memref sig .tc .vmem S1x512x1024 .fp8e4m3) (harg6 : arg6.IsWhole)
    (arg7 : Memref sig .tc .vmem S1x8x512 .f32) (harg7 : arg7.IsWhole) (arg8 : Memref sig .tc .vmem S1024x2048 .bf16) (harg8 : arg8.IsWhole)
    (arg9 : Memref sig .tc .vmem S512x1024 .bf16) (harg9 : arg9.IsWhole)
    (hc0 : ¬cond0_0 i) (x0 : Vec Ideal S16x128 .f32) (x1 : Vec Ideal S1x512x1024 .bf16) (x2 : Vec Ideal S1x1024x2048 .fp8e4m3) (xs0 : Vec Ideal S1024x2048 .bf16) :
    out0_B_3 (F := Ideal) c i arg2 harg2 arg3 harg3 arg4 harg4 arg5 harg5 arg6 harg6 arg7 harg7 arg8 harg8 arg9 harg9 hc0 x0 x1 x2 xs0 = yBlock (View.canon (deqPieces x1)) xs0 := by
  unfold out0_B_3
  rw [View.read_writes_junk_eq_canon]
  rw [← readCov_whole arg9.view (deqPieces x1) hz2 inb_S512x1024_S512x1024_0_0]
  unfold kernelRun0_B
  dsimp only
  rw [View.canon_unit_zero hz3]
  sl_unfold_words
  simp only [View.readAt_eq_ld, harg3.read_unread, harg8.read_unread, View.ld_unit_zero (S := S1024x2048) hz2]
  rfl

end Cert.KernelIdeal.Value

end
-- ==== Proof.Lanes.lean ====
/-
  The blocks of codes, of rescaled codes and of scales, read at one place.

  Token `r`, lane `l` of group `g` depends on the token's 128 lanes of that group alone.
-/
module

public import proofs.«01_k».proof.Proof.Weights
public import Idealize.ShloMosaic.Lib.Pipeline.ValueKit

@[expose] public section

noncomputable section

open Idealize.ShloMosaic Idealize.ShloMosaic.TcCoe Idealize.SL.Sem

namespace Cert.KernelIdeal.Value

open Cert.KernelIdeal Cert.KernelIdeal.Gen

variable {F : FTy → Type} [FloatOps F]

/-- The 128 lanes of group `g` of a token block. -/
def lanes (x : Vec F S1x512x1024 .bf16) (g : Fin 8) : Vec F S1x512x128 .bf16 :=
  fun z => x (ix3 (0 : Fin 1) (z 1) ⟨128 * g.val + (z 2).val, by have := g.isLt; have : (z 2).val < 128 := (z 2).isLt; omega⟩)

theorem ld_group (x : Vec F S1x512x1024 .bf16) (o : ℕ) (h : ∀ a, (![0, 0, o] : Fin 3 → ℕ) a + S1x512x128.size a ≤ S1x512x1024.size a)
    (g : Fin 8) (e : o = 128 * g.val) : View.ld x (groupRect o h) = lanes x g := by
  subst e
  funext z
  refine View.ld_unit_apply_of _ _ _ _ _ _ fun a => ?_
  fin_cases a
  · have : (z 0 : ℕ) < 1 := (z 0).isLt
    show (0 : ℕ) = 0 + (z 0 : ℕ); omega
  · show (z 1 : ℕ) = 0 + (z 1 : ℕ); omega
  · rfl

/-- The group of lane `j`, and its place in the group. -/
def grp (j : Fin 1024) : Fin 8 := ⟨j.val / 128, by omega⟩
def lane (j : Fin 1024) : Fin 128 := ⟨j.val % 128, by omega⟩

/-- The block of codes. -/
def codesFull (x : Vec F S1x512x1024 .bf16) : Vec F S1x512x1024 .fp8e4m3 :=
  fun y => gCodes (lanes x (grp (y 2))) (ix2 (y 1) (lane (y 2)))

/-- The block of rescaled codes. -/
def deqFull (x : Vec F S1x512x1024 .bf16) : Vec F S512x1024 .bf16 :=
  fun y => gDeq (lanes x (grp (y 1))) (ix2 (y 0) (lane (y 1)))

theorem codePiece_ok (x : Vec F S1x512x1024 .bf16) (o : ℕ) (h : ∀ a, (![0, 0, o] : Fin 3 → ℕ) a + S1x512x128.size a ≤ S1x512x1024.size a)
    (g : Fin 8) (e : o = 128 * g.val) (z : (groupRect o h).shape.Idx) :
    shapeCast S1x512x128 (gCodes (View.ld x (groupRect o h))) shapeCasts_S512x128_S1x512x128 z = codesFull x ((groupRect o h).emb z) := by
  rw [ld_group x o h g e]
  have hz : (z 2 : ℕ) < 128 := (z 2).isLt
  have hg := g.isLt
  unfold codesFull
  have e2 : (((groupRect o h).emb z) 2 : ℕ) = o + 1 * (z 2 : ℕ) := rfl
  have e1 : (((groupRect o h).emb z) 1 : ℕ) = 0 + 1 * (z 1 : ℕ) := rfl
  have eg : grp (((groupRect o h).emb z) 2) = g := Fin.ext (by show (((groupRect o h).emb z) 2 : ℕ) / 128 = g; omega)
  rw [eg]
  pointwise
  refine congrArg _ (funext fun a => Fin.ext ?_)
  fin_cases a
  · show (z 1 : ℕ) = (((groupRect o h).emb z) 1 : ℕ); omega
  · show (z 2 : ℕ) = (((groupRect o h).emb z) 2 : ℕ) % 128; omega

theorem deqPiece_ok (x : Vec F S1x512x1024 .bf16) (o : ℕ) (h : ∀ a, (![0, 0, o] : Fin 3 → ℕ) a + S1x512x128.size a ≤ S1x512x1024.size a)
    (h' : ∀ a, (![0, o] : Fin 2 → ℕ) a + S512x128.size a ≤ S512x1024.size a)
    (g : Fin 8) (e : o = 128 * g.val) (z : (Rect.unit (s := S512x1024) ![0, o] S512x128.size h').shape.Idx) :
    shapeCast S512x128 (gDeq (View.ld x (groupRect o h))) shapeCasts_S512x128_S512x128 z
      = deqFull x ((Rect.unit (s := S512x1024) ![0, o] S512x128.size h').emb z) := by
  rw [ld_group x o h g e, shapeCast_self]
  have hz : (z 1 : ℕ) < 128 := (z 1).isLt
  have hg := g.isLt
  unfold deqFull
  generalize hy : (Rect.unit (s := S512x1024) ![0, o] S512x128.size h').emb z = y
  have e1 : (y 1 : ℕ) = o + 1 * (z 1 : ℕ) := by rw [← hy]; rfl
  have e0 : (y 0 : ℕ) = 0 + 1 * (z 0 : ℕ) := by rw [← hy]; rfl
  have eg : grp (y 1) = g := Fin.ext (by show (y 1 : ℕ) / 128 = g; omega)
  rw [eg]
  refine congrArg _ (funext fun a => Fin.ext ?_)
  fin_cases a
  · show (z 0 : ℕ) = (y 0 : ℕ); omega
  · show (z 1 : ℕ) = (y 1 : ℕ) % 128; omega

/-- The eight stores of codes leave the block of codes. -/
theorem canon_codes (x : Vec F S1x512x1024 .bf16) : View.canon (codePieces x) = codesFull x :=
  canon_of_piecesOf _ _
    (piecesOf_cons (codePiece_ok x _ _ 7 rfl) <| piecesOf_cons (codePiece_ok x _ _ 6 rfl) <|
      piecesOf_cons (codePiece_ok x _ _ 5 rfl) <| piecesOf_cons (codePiece_ok x _ _ 4 rfl) <|
      piecesOf_cons (codePiece_ok x _ _ 3 rfl) <| piecesOf_cons (codePiece_ok x _ _ 2 rfl) <|
      piecesOf_cons (codePiece_ok x _ _ 1 rfl) <| piecesOf_cons (codePiece_ok x _ _ 0 rfl) trivial)
    (View.cover_of_tiledL _ S1x512x128.size (by sl_kernel_rfl))

/-- The eight stores of rescaled codes leave the block of rescaled codes. -/
theorem canon_deq (x : Vec F S1x512x1024 .bf16) : View.canon (deqPieces x) = deqFull x :=
  canon_of_piecesOf _ _
    (piecesOf_cons (deqPiece_ok x _ _ _ 7 rfl) <| piecesOf_cons (deqPiece_ok x _ _ _ 6 rfl) <|
      piecesOf_cons (deqPiece_ok x _ _ _ 5 rfl) <| piecesOf_cons (deqPiece_ok x _ _ _ 4 rfl) <|
      piecesOf_cons (deqPiece_ok x _ _ _ 3 rfl) <| piecesOf_cons (deqPiece_ok x _ _ _ 2 rfl) <|
      piecesOf_cons (deqPiece_ok x _ _ _ 1 rfl) <| piecesOf_cons (deqPiece_ok x _ _ _ 0 rfl) trivial)
    (View.cover_of_tiledL _ S512x128.size (by sl_kernel_rfl))

theorem lane_eq : ∀ g k : Fin 8, IntOp.cmpi CmpIPredicate.eq (BitVec.ofNat 32 g.val) (BitVec.ofNat 32 k.val) = 1 ↔ g = k := by
  decide

theorem lane_cases : ∀ g : Fin 8, g = 7 ∨ g = 6 ∨ g = 5 ∨ g = 4 ∨ g = 3 ∨ g = 2 ∨ g = 1 ∨ g = 0 := by decide

/-- One lane set: the group's scale in its lane, the lanes before it kept. -/
theorem gSet_apply (b : BitVec 32) (k : Fin 8) (hb : b = BitVec.ofNat 32 k.val) (v : Vec F S1x512x128 .bf16)
    (p : FVec F S512x8 .f32) (r : Fin 512) (g : Fin 8) :
    gSet b v p (ix2 r g) = if g = k then gScale v (ix2 r (0 : Fin 1)) else p (ix2 r g) := by
  subst hb
  unfold gSet
  pointwise
  unfold Scalar.select
  simp only [lane_eq]

/-- Lane `g` of the block of scales is group `g`'s scale. -/
theorem scales_apply (x : Vec F S1x512x1024 .bf16) (r : Fin 512) (g : Fin 8) :
    scales x (ix2 r g) = gScale (lanes x g) (ix2 r (0 : Fin 1)) := by
  unfold scales
  rw [ld_group x 896 _ 7 rfl, ld_group x 768 _ 6 rfl, ld_group x 640 _ 5 rfl, ld_group x 512 _ 4 rfl,
    ld_group x 384 _ 3 rfl, ld_group x 256 _ 2 rfl, ld_group x 128 _ 1 rfl, ld_group x 0 _ 0 rfl,
    gSet_apply 7#32 7 rfl, gSet_apply 6#32 6 rfl, gSet_apply 5#32 5 rfl, gSet_apply 4#32 4 rfl, gSet_apply 3#32 3 rfl, gSet_apply 2#32 2 rfl,
    gSet_apply 1#32 1 rfl, gSet_apply 0#32 0 rfl]
  split_ifs with h7 h6 h5 h4 h3 h2 h1 h0
  · rw [h7]
  · rw [h6]
  · rw [h5]
  · rw [h4]
  · rw [h3]
  · rw [h2]
  · rw [h1]
  · rw [h0]
  · exfalso
    rcases lane_cases g with h | h | h | h | h | h | h | h <;> contradiction

/-- The block of scales as stored: groups by tokens. -/
def scalesFull (x : Vec F S1x512x1024 .bf16) : Vec F S1x8x512 .f32 :=
  fun y => gScale (lanes x (y 1)) (ix2 (y 2) (0 : Fin 1))

theorem scales_stored (x : Vec F S1x512x1024 .bf16) :
    shapeCast S1x8x512 (transpose S8x512 [1, 0] (scales x) transposes_S512x8_p1_0_S8x512) shapeCasts_S8x512_S1x8x512
      = scalesFull x := by
  funext y
  idx_vars y
  unfold scalesFull
  pointwise
  exact scales_apply x _ _

end Cert.KernelIdeal.Value

end
-- ==== Proof.Arrays.lean ====
/-
  What the three result arrays of the kernel's grid hold.

  Point `t` of the grid treats head `t / 6` and its block `t % 6` of 512 tokens.
-/
module

public import proofs.«01_k».proof.Proof.Lanes
public import Idealize.ShloMosaic.Lib.Pipeline.ValueKit.Held

@[expose] public section

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (c : Dev nD)

/-- The three arguments of the kernel, the weights' scales by square blocks. -/
abbrev argX : S16x3072x1024.Idx → EReal := m ((c : Thread nD τ).loc main_arg0)
abbrev argW : S16x1024x2048.Idx → EReal := m ((c : Thread nD τ).loc main_arg1)
abbrev argS : S16x8x16.Idx → EReal := m ((c : Thread nD τ).loc main_arg2)

/-- The head and the block of tokens of a point. -/
def hd (t : Fin cfg0.N) : Fin 16 := ⟨t.val / 6, by have : t.val < 96 := lt_of_lt_of_eq t.isLt N_0; omega⟩
def bk (t : Fin cfg0.N) : Fin 6 := ⟨t.val % 6, by omega⟩

theorem idx1 : ∀ t : Fin grid0.N, win0_1.index t = ![t.val / 6, t.val % 6, 0] := by decide +kernel
theorem idx2 : ∀ t : Fin grid0.N, win0_2.index t = ![t.val / 6, 0, 0] := by decide +kernel
theorem idx0 : ∀ t : Fin grid0.N, win0_0.index t = ![0, 0] := by decide +kernel
theorem idx3 : ∀ t : Fin grid0.N, win0_3.index t = ![t.val / 6, t.val % 6, 0] := by decide +kernel
theorem idx4 : ∀ t : Fin grid0.N, win0_4.index t = ![t.val / 6, t.val % 6, 0] := by decide +kernel
theorem idx5 : ∀ t : Fin grid0.N, win0_5.index t = ![t.val / 6, 0, t.val % 6] := by decide +kernel
theorem coord0 : ∀ t : Fin grid0.N, (grid0.coords t 0 : ℕ) = t.val / 6 := by decide +kernel

/-- The block of 512 tokens of one head. -/
def xBlk (X : S16x3072x1024.Idx → EReal) (h : Fin 16) (b : Fin 6) : Vec Ideal S1x512x1024 .bf16 :=
  fun y => X (ix3 h ⟨512 * b.val + (y 1).val, by have := b.isLt; have : (y 1).val < 512 := (y 1).isLt; omega⟩ (y 2))

/-- The weights of one head. -/
def wBlk (W : S16x1024x2048.Idx → EReal) (h : Fin 16) : Vec Ideal S1x1024x2048 .fp8e4m3 :=
  fun y => W (ix3 h (y 1) (y 2))

/-- The table of the weights' scales, one head a row. -/
def sBlk (S : S16x8x16.Idx → EReal) : Vec Ideal S16x128 .f32 :=
  fun y => S (ix3 (y 0) ⟨(y 1).val / 16, by have : (y 1).val < 128 := (y 1).isLt; omega⟩ ⟨(y 1).val % 16, by omega⟩)

theorem iblk1 (t : Fin cfg0.N) : iblk m c 1 t = xBlk (argX m c) (hd t) (bk t) := by
  funext y
  unfold xBlk hd bk
  blk_ext [iblk, V, idx1 t]

theorem iblk2 (t : Fin cfg0.N) : iblk m c 2 t = wBlk (argW m c) (hd t) := by
  funext y
  unfold wBlk hd
  blk_ext [iblk, V, idx2 t]

/-- The table the region reads is the scales' argument, two axes made one. -/
theorem V_v0 : V m c main_v0 = shapeCast S16x128 (argS m c) shapeCasts_S16x8x16_S16x128 := by
  rfl

theorem iblk0 (t : Fin cfg0.N) : iblk m c 0 t = sBlk (argS m c) := by
  funext y
  unfold sBlk
  blk_simp [iblk]
  rw [V_v0]
  idx_vars y
  have h0 := y0.isLt
  have h1 := y1.isLt
  generalize he : (win0_0.blk t).view.emb (ix2 y0 y1) = z
  have e0 : (z 0 : ℕ) = y0.val := by rw [← he]; blk_simp [idx0 t]
  have e1 : (z 1 : ℕ) = y1.val := by rw [← he]; blk_simp [idx0 t]
  clear he
  obtain rfl : z = ix2 y0 y1 := by
    funext a
    fin_cases a
    · exact Fin.ext e0
    · exact Fin.ext e1
  pointwise

/-- The scratch buffer after any point: the rescaled weights of the point's head. -/
theorem scratch_eq (t : Fin cfg0.N) :
    (outsAt0 m c t.val t.isLt).2.2.2 = wFull (sBlk (argS m c)) (wBlk (argW m c) (hd t)) (hd t) := by
  have h := Pipeline.eq_of_write_hold (fun n h => (outsAt0 m c n h).2.2.2) 6
    (fun t => wFull (sBlk (argS m c)) (wBlk (argW m c) (hd t)) (hd t))
    (fun t h0 => by
      show (outsAt0 m c t.val t.isLt).2.2.2 = _
      rw [outsAt0_A m c t h0]
      dsimp only
      rw [sout_A (h := hd t) (hh := coord0 t), iblk0, iblk2])
    (fun t h0 => by
      show (outsAt0 m c t.val t.isLt).2.2.2 = _
      rw [outsAt0_B m c t h0]
      dsimp only
      rw [sout0_B_0]) t
  have e : hd ⟨6 * (t.val / 6), Pipeline.run_start_lt t⟩ = hd t := Fin.ext (by show 6 * (t.val / 6) / 6 = t.val / 6; omega)
  rw [e] at h
  exact h

/-- The blocks a point leaves. -/
theorem out3_eq (t : Fin cfg0.N) : (outsAt0 m c t.val t.isLt).1
    = yBlock (deqFull (xBlk (argX m c) (hd t) (bk t))) (wFull (sBlk (argS m c)) (wBlk (argW m c) (hd t)) (hd t)) := by
  by_cases h0 : t.val % 6 = 0
  · rw [outsAt0_A m c t h0]
    dsimp only
    rw [out_A_3, sout_A (h := hd t) (hh := coord0 t), canon_deq, iblk0, iblk1, iblk2]
  · have hs : (outsAt0 m c (t.val - 1) (Nat.lt_of_le_of_lt (Nat.sub_le _ _) t.isLt)).2.2.2 = _ :=
      (show _ = (outsAt0 m c t.val t.isLt).2.2.2 by rw [outsAt0_B m c t h0]; dsimp only; rw [sout0_B_0]).trans (scratch_eq m c t)
    rw [outsAt0_B m c t h0]
    dsimp only
    rw [out_B_3, canon_deq, hs, iblk1]

theorem out4_eq (t : Fin cfg0.N) : (outsAt0 m c t.val t.isLt).2.1 = codesFull (xBlk (argX m c) (hd t) (bk t)) := by
  by_cases h0 : t.val % 6 = 0
  · rw [outsAt0_A m c t h0]
    dsimp only
    rw [out_A_4, canon_codes, iblk1]
  · rw [outsAt0_B m c t h0]
    dsimp only
    rw [out_B_4, canon_codes, iblk1]

theorem out5_eq (t : Fin cfg0.N) : (outsAt0 m c t.val t.isLt).2.2.1 = scalesFull (xBlk (argX m c) (hd t) (bk t)) := by
  by_cases h0 : t.val % 6 = 0
  · rw [outsAt0_A m c t h0]
    dsimp only
    rw [out_A_5, scales_stored, iblk1]
  · rw [outsAt0_B m c t h0]
    dsimp only
    rw [out_B_5, scales_stored, iblk1]

/-- The block of token `r`, and its place in the block. -/
def tb (r : Fin 3072) : Fin 6 := ⟨r.val / 512, by omega⟩
def tr (r : Fin 3072) : Fin 512 := ⟨r.val % 512, by omega⟩

/-- The result arrays. -/
def resY (X : S16x3072x1024.Idx → EReal) (W : S16x1024x2048.Idx → EReal) (S : S16x8x16.Idx → EReal) : S16x3072x2048.Idx → EReal :=
  fun y => yBlock (deqFull (xBlk X (y 0) (tb (y 1)))) (wFull (sBlk S) (wBlk W (y 0)) (y 0)) (ix3 (0 : Fin 1) (tr (y 1)) (y 2))
def resC (X : S16x3072x1024.Idx → EReal) : S16x3072x1024.Idx → EReal :=
  fun y => codesFull (xBlk X (y 0) (tb (y 1))) (ix3 (0 : Fin 1) (tr (y 1)) (y 2))
def resS (X : S16x3072x1024.Idx → EReal) : S16x8x3072.Idx → EReal :=
  fun y => scalesFull (xBlk X (y 0) (tb (y 2))) (ix3 (0 : Fin 1) (y 1) (tr (y 2)))

theorem arr3 : (dats m 0 c).arrAt 3 cfg0.N = resY (argX m c) (argW m c) (argS m c) := by
  refine (dats m 0 c).arrAt_eq_of_covers 3 _ (by decide +kernel) fun t hf y => ?_
  blk_simp
  rw [after0_3, out3_eq]
  generalize he : (win0_3.blk t).view.emb y = z
  have hy0 : (y 0 : ℕ) < 1 := (y 0).isLt
  have hy1 : (y 1 : ℕ) < 512 := (y 1).isLt
  have e0 : (z 0 : ℕ) = t.val / 6 * 1 + (y 0 : ℕ) := by rw [← he]; blk_simp [idx3 t]
  have e1 : (z 1 : ℕ) = t.val % 6 * 512 + (y 1 : ℕ) := by rw [← he]; blk_simp [idx3 t]
  have e2 : (z 2 : ℕ) = 0 * 2048 + (y 2 : ℕ) := by rw [← he]; blk_simp [idx3 t]
  clear he
  have f0 : z 0 = hd t := Fin.ext (by show (z 0 : ℕ) = t.val / 6; omega)
  have f1 : tb (z 1) = bk t := Fin.ext (by show (z 1 : ℕ) / 512 = t.val % 6; omega)
  unfold resY
  rw [f0, f1]
  refine congrArg _ (funext fun a => Fin.ext ?_)
  fin_cases a
  · show (y 0 : ℕ) = 0; omega
  · show (y 1 : ℕ) = (z 1 : ℕ) % 512; omega
  · show (y 2 : ℕ) = (z 2 : ℕ); omega

theorem arr4 : (dats m 0 c).arrAt 4 cfg0.N = resC (argX m c) := by
  refine (dats m 0 c).arrAt_eq_of_covers 4 _ (by decide +kernel) fun t hf y => ?_
  blk_simp
  rw [after0_4, out4_eq]
  generalize he : (win0_4.blk t).view.emb y = z
  have hy0 : (y 0 : ℕ) < 1 := (y 0).isLt
  have hy1 : (y 1 : ℕ) < 512 := (y 1).isLt
  have e0 : (z 0 : ℕ) = t.val / 6 * 1 + (y 0 : ℕ) := by rw [← he]; blk_simp [idx4 t]
  have e1 : (z 1 : ℕ) = t.val % 6 * 512 + (y 1 : ℕ) := by rw [← he]; blk_simp [idx4 t]
  have e2 : (z 2 : ℕ) = 0 * 1024 + (y 2 : ℕ) := by rw [← he]; blk_simp [idx4 t]
  clear he
  have f0 : z 0 = hd t := Fin.ext (by show (z 0 : ℕ) = t.val / 6; omega)
  have f1 : tb (z 1) = bk t := Fin.ext (by show (z 1 : ℕ) / 512 = t.val % 6; omega)
  unfold resC
  rw [f0, f1]
  refine congrArg _ (funext fun a => Fin.ext ?_)
  fin_cases a
  · show (y 0 : ℕ) = 0; omega
  · show (y 1 : ℕ) = (z 1 : ℕ) % 512; omega
  · show (y 2 : ℕ) = (z 2 : ℕ); omega

theorem arr5 : (dats m 0 c).arrAt 5 cfg0.N = resS (argX m c) := by
  refine (dats m 0 c).arrAt_eq_of_covers 5 _ (by decide +kernel) fun t hf y => ?_
  blk_simp
  rw [after0_5, out5_eq]
  generalize he : (win0_5.blk t).view.emb y = z
  have hy0 : (y 0 : ℕ) < 1 := (y 0).isLt
  have hy2 : (y 2 : ℕ) < 512 := (y 2).isLt
  have e0 : (z 0 : ℕ) = t.val / 6 * 1 + (y 0 : ℕ) := by rw [← he]; blk_simp [idx5 t]
  have e1 : (z 1 : ℕ) = 0 * 8 + (y 1 : ℕ) := by rw [← he]; blk_simp [idx5 t]
  have e2 : (z 2 : ℕ) = t.val % 6 * 512 + (y 2 : ℕ) := by rw [← he]; blk_simp [idx5 t]
  clear he
  have f0 : z 0 = hd t := Fin.ext (by show (z 0 : ℕ) = t.val / 6; omega)
  have f1 : tb (z 2) = bk t := Fin.ext (by show (z 2 : ℕ) / 512 = t.val % 6; omega)
  unfold resS
  rw [f0, f1]
  refine congrArg _ (funext fun a => Fin.ext ?_)
  fin_cases a
  · show (y 0 : ℕ) = 0; omega
  · show (y 1 : ℕ) = (z 1 : ℕ); omega
  · show (y 2 : ℕ) = (z 2 : ℕ) % 512; omega

end Cert.KernelIdeal.Value

end
-- ==== Proof.Run.lean ====
/-
  The kernel's run: its three results as functions of its arguments.
-/
module

public import proofs.«01_k».proof.Proof.Arrays

@[expose] public section

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (ρ : Dev nD → PrngReg)

/-- The scales, tokens by groups. -/
def resT (X : S16x3072x1024.Idx → EReal) : S16x3072x8.Idx → EReal :=
  fun y => resS X (ix3 (y 0) (y 2) (y 1))

/-- The transpose after the grid turns the scales to tokens by groups. -/
theorem tail_scales (c : Dev nD) :
    Pipeline.afterTail₀ cfgs (dats m) 0 (V0 m) [hostOps1] c main_v2 = resT (argX m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1_2)
    = resS (argX m c) from (Pipeline.withArrays_arr spec0 (by decide) c _ _ 5).trans (arr5 m c)]
  funext y
  unfold resT
  pointwise

/-- Every run ends with the three results and leaves the arguments as they were. -/
theorem run : θ_run defs (onTc (τ := τ) (main (F := Ideal))) ⟨m, fun _ => 0, ρ⟩ (fun r => ∀ c : Dev nD,
      r.2.mem ((c.tc : Thread nD τ).loc main_v1_0) = resY (argX m c) (argW m c) (argS m c)
      ∧ r.2.mem ((c.tc : Thread nD τ).loc main_v1_1) = resC (argX m c)
      ∧ r.2.mem ((c.tc : Thread nD τ).loc main_v2) = resT (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (arr3 m c), ((h c).1 4).trans (arr4 m c),
      ((h c).2 main_v2 (Pipeline.mem_restRefs_of main_v2 (by decide) (by decide))).trans (tail_scales m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Value

end
-- ==== Proof.Exponent.lean ====
/-
  The exponent of a group's scale.

  For the largest magnitude `a` of a group both programs choose the least power of two above `a / 448`, and the scale
  one where that quotient is too small or the magnitude is not finite. The kernel finds the exponent by a binary search
  over the thresholds `448 · 2^(n - 136)`; the reference takes a minimum over all the powers. Here both searches are
  over extended reals and words alone, and they are shown to agree.
-/
module

public import proofs.«01_k».proof.Proof.Run
public import Idealize.ShloMosaic.Lib.Pointwise

@[expose] public section

noncomputable section

open Idealize.ShloMosaic

namespace Cert.Exponent

/-! ## What the constants denote -/

theorem ofBits_448 : Ideal.ofBits .f32 1138753536#32 = ((448 : ℝ) : EReal) := by
  simp [Ideal.ofBits, Ideal.ieee, -EReal.coe_mul]; norm_num

theorem ofBits_125 : Ideal.ofBits .f32 1123680256#32 = ((125 : ℝ) : EReal) := by
  simp [Ideal.ofBits, Ideal.ieee, -EReal.coe_mul]; norm_num

theorem ofBits_top : Ideal.ofBits .f32 2139095040#32 = ⊤ := by
  simp [Ideal.ofBits, Ideal.ieee]

/-- The greatest finite magnitude. -/
def big : ℝ := (2 ^ 24 - 1) * 2 ^ 104

theorem ofBits_big : Ideal.ofBits .f32 2139095039#32 = ((big : ℝ) : EReal) := by
  simp [Ideal.ofBits, Ideal.ieee, big, -EReal.coe_mul]; norm_num

/-- Word `n` shifted to the exponent's place denotes a power of two. -/
theorem ofBits_pow (n : ℕ) (h1 : 1 ≤ n) (h2 : n < 255) :
    Ideal.ofBits .f32 (IntOp.shli .vector (BitVec.ofNat 32 n) 23#32) = (((2 : ℝ) ^ ((n : ℤ) - 127) : ℝ) : EReal) := by
  have H : ∀ n : Fin 255, ((IntOp.shli .vector (BitVec.ofNat 32 n) 23#32).extractLsb' 31 1 == 1#1) = false
      ∧ ((IntOp.shli .vector (BitVec.ofNat 32 n) 23#32).extractLsb' 23 8).toNat = n
      ∧ ((IntOp.shli .vector (BitVec.ofNat 32 n) 23#32).extractLsb' 0 23).toNat = 0 := by decide +kernel
  obtain ⟨a, b, c⟩ := H ⟨n, h2⟩
  dsimp only at a b c
  unfold Ideal.ofBits Ideal.ieee
  simp only [Nat.reduceAdd, a, b, c]
  rw [if_neg (by omega), if_neg (by omega)]
  refine congrArg _ ?_
  norm_num
  rw [zpow_sub₀ (by norm_num)]
  norm_num
  ring

theorem ofBits_tiny : Ideal.ofBits .f32 8388608#32 = (((2 : ℝ) ^ (-126 : ℤ) : ℝ) : EReal) := by
  have := ofBits_pow 1 (by decide) (by decide)
  rw [show IntOp.shli .vector (BitVec.ofNat 32 1) 23#32 = 8388608#32 from by decide +kernel] at this
  rw [this]; norm_num

/-! ## The kernel's thresholds -/

/-- Threshold `n` of the search. -/
def thr (n : ℕ) : ℝ := if n = 1 then 3 / 2 * 2 ^ (-127 : ℤ) else 448 * 2 ^ ((n : ℤ) - 136)

/-- The word of threshold `n`. -/
abbrev thrWord (w : BitVec 32) : BitVec 32 := IntOp.subi (IntOp.shli .vector w 23#32) 2097152#32

theorem ofBits_thr (n : ℕ) (h1 : 1 ≤ n) (h2 : n < 256) : Ideal.ofBits .f32 (thrWord (BitVec.ofNat 32 n)) = ((thr n : ℝ) : EReal) := by
  have H : ∀ n : Fin 256, 1 ≤ n.val → ((thrWord (BitVec.ofNat 32 n)).extractLsb' 31 1 == 1#1) = false
      ∧ ((thrWord (BitVec.ofNat 32 n)).extractLsb' 23 8).toNat = n.val - 1
      ∧ ((thrWord (BitVec.ofNat 32 n)).extractLsb' 0 23).toNat = 6291456 := by decide +kernel
  obtain ⟨a, b, c⟩ := H ⟨n, h2⟩ h1
  dsimp only at a b c
  unfold Ideal.ofBits Ideal.ieee
  simp only [Nat.reduceAdd, a, b, c]
  rw [if_neg (by omega)]
  unfold thr
  by_cases e : n = 1
  · subst e
    norm_num
  · rw [if_neg (by omega), if_neg e]
    refine congrArg _ ?_
    push_cast [h1]
    norm_num
    rw [show ((n : ℤ) - 1 - 127 - 23) = ((n : ℤ) - 136) - 15 by ring, zpow_sub₀ (by norm_num)]
    norm_num
    ring

theorem thr_mono (i j : ℕ) (h1 : 1 ≤ i) (h : i ≤ j) : thr i ≤ thr j := by
  have p : ∀ a b : ℤ, a ≤ b → (2 : ℝ) ^ a ≤ 2 ^ b := fun a b hab => zpow_le_zpow_right₀ (by norm_num) hab
  unfold thr
  by_cases ei : i = 1
  · by_cases ej : j = 1
    · rw [if_pos ei, if_pos ej]
    · rw [if_pos ei, if_neg ej]
      have := p (-134) ((j : ℤ) - 136) (by omega)
      have e : (2 : ℝ) ^ (-127 : ℤ) = 128 * 2 ^ (-134 : ℤ) := by norm_num
      have : (0 : ℝ) < 2 ^ (-134 : ℤ) := by positivity
      rw [e]
      generalize (2 : ℝ) ^ (-134 : ℤ) = u at *
      linarith
  · rw [if_neg ei, if_neg (by omega)]
    have := p ((i : ℤ) - 136) ((j : ℤ) - 136) (by omega)
    linarith

/-- The number of thresholds at or under `a`. -/
def grade (a : EReal) : ℕ := Nat.findGreatest (fun n => 1 ≤ n ∧ ((thr n : ℝ) : EReal) ≤ a) 255

theorem grade_lt (a : EReal) : grade a < 256 := Nat.lt_succ_of_le (Nat.findGreatest_le _)

theorem thr_le_iff (a : EReal) (k : ℕ) (h1 : 1 ≤ k) (h2 : k < 256) : ((thr k : ℝ) : EReal) ≤ a ↔ k ≤ grade a := by
  constructor
  · exact fun h => Nat.le_findGreatest (by omega) ⟨h1, h⟩
  · intro h
    have hs := (Nat.findGreatest_of_ne_zero (P := fun n => 1 ≤ n ∧ ((thr n : ℝ) : EReal) ≤ a) (n := 255) (m := grade a) rfl (by omega)).2
    exact (EReal.coe_le_coe_iff.mpr (thr_mono k _ h1 h)).trans hs

/-! ## The binary search -/

/-- One step of the search. -/
abbrev sstep (a : EReal) (s c : BitVec 32) : BitVec 32 :=
  if Ideal.ofBits .f32 (thrWord (IntOp.addi c s)) ≤ a then IntOp.addi c s else c

/-- The count so far is at most the grade, and less than `k` below it. -/
def Near (a : EReal) (c : BitVec 32) (k : ℕ) : Prop :=
  ∃ n : ℕ, c = BitVec.ofNat 32 n ∧ n ≤ grade a ∧ grade a < n + k ∧ n + k ≤ 256

theorem near_start (a : EReal) : Near a 0#32 256 := ⟨0, rfl, Nat.zero_le _, by have := grade_lt a; omega, le_refl _⟩

/-- A step halves the distance. -/
theorem near_step (a : EReal) (c : BitVec 32) (k : ℕ) (hk : 1 ≤ k) (h : Near a c (k + k)) : Near a (sstep a (BitVec.ofNat 32 k) c) k := by
  obtain ⟨n, rfl, h1, h2, h3⟩ := h
  have e : IntOp.addi (BitVec.ofNat 32 n) (BitVec.ofNat 32 k) = BitVec.ofNat 32 (n + k) := (BitVec.ofNat_add n k).symm
  unfold sstep
  rw [e, ofBits_thr (n + k) (by omega) (by omega)]
  by_cases hc : ((thr (n + k) : ℝ) : EReal) ≤ a
  · rw [if_pos hc]
    exact ⟨n + k, rfl, (thr_le_iff a _ (by omega) (by omega)).mp hc, by omega, by omega⟩
  · rw [if_neg hc]
    have := mt (thr_le_iff a (n + k) (by omega) (by omega)).mpr hc
    exact ⟨n, rfl, h1, by omega, by omega⟩

/-- The eight steps find the grade. -/
theorem search (a : EReal) :
    sstep a 1#32 (sstep a 2#32 (sstep a 4#32 (sstep a 8#32 (sstep a 16#32 (sstep a 32#32 (sstep a 64#32
      (sstep a 128#32 0#32))))))) = BitVec.ofNat 32 (grade a) := by
  obtain ⟨n, e, h1, h2, -⟩ :=
    near_step a _ 1 (by decide) (near_step a _ 2 (by decide) (near_step a _ 4 (by decide) (near_step a _ 8 (by decide)
      (near_step a _ 16 (by decide) (near_step a _ 32 (by decide) (near_step a _ 64 (by decide)
        (near_step a _ 128 (by decide) (near_start a))))))))
  rw [show grade a = n by omega]
  exact e

/-! ## The kernel's exponent -/

/-- The biased exponent of the scale. -/
def expo (a : EReal) : ℕ := if grade a < 10 ∨ ((big : ℝ) : EReal) < a then 127 else grade a - 8

theorem expo_bounds (a : EReal) : 2 ≤ expo a ∧ expo a ≤ 247 := by
  have := grade_lt a
  unfold expo
  split
  · omega
  · rename_i h; push Not at h; omega

theorem biased_word (a : EReal) :
    Scalar.select (IntOp.ori (IntOp.cmpi .slt (IntOp.subi (BitVec.ofNat 32 (grade a)) 8#32) 2#32)
      (BitVec.ofBool (decide (Ideal.ofBits .f32 2139095039#32 < a)))) 127#32 (IntOp.subi (BitVec.ofNat 32 (grade a)) 8#32)
      = BitVec.ofNat 32 (expo a) := by
  have H : ∀ n : Fin 256, IntOp.cmpi .slt (IntOp.subi (BitVec.ofNat 32 n) 8#32) 2#32 = BitVec.ofBool (decide (n.val < 10))
      ∧ (10 ≤ n.val → IntOp.subi (BitVec.ofNat 32 n) 8#32 = BitVec.ofNat 32 (n.val - 8)) := by decide +kernel
  obtain ⟨e1, e2⟩ := H ⟨grade a, grade_lt a⟩
  dsimp only at e1 e2
  rw [e1, ofBits_big]
  unfold expo
  by_cases h1 : grade a < 10
  · by_cases h2 : ((big : ℝ) : EReal) < a <;> simp [h1, h2, Scalar.select, IntOp.ori]
  · by_cases h2 : ((big : ℝ) : EReal) < a
    · simp [h1, h2, Scalar.select, IntOp.ori]
    · simp [h1, h2, Scalar.select, IntOp.ori, e2 (by omega)]

/-- The scale of a group whose largest magnitude is `a`. -/
def scale (a : EReal) : EReal := (((2 : ℝ) ^ ((expo a : ℤ) - 127) : ℝ) : EReal)

theorem scale_word (a : EReal) : Ideal.ofBits .f32 (IntOp.shli .vector (BitVec.ofNat 32 (expo a)) 23#32) = scale a :=
  have h := expo_bounds a
  ofBits_pow _ (by omega) (by omega)

/-- The reciprocal's word. -/
theorem inv_word (a : EReal) :
    Ideal.ofBits .f32 (IntOp.shli .vector (IntOp.subi 254#32 (BitVec.ofNat 32 (expo a))) 23#32) = Ideal.div 1 (scale a) := by
  have h := expo_bounds a
  have H : ∀ n : Fin 255, IntOp.subi 254#32 (BitVec.ofNat 32 n) = BitVec.ofNat 32 (254 - n.val) := by decide +kernel
  have e := H ⟨expo a, by omega⟩
  dsimp only at e
  rw [e, ofBits_pow _ (by omega) (by omega)]
  unfold scale
  rw [show (1 : EReal) = ((1 : ℝ) : EReal) from rfl, Ideal.div_coe (by positivity)]
  refine congrArg _ ?_
  rw [show ((254 - expo a : ℕ) : ℤ) - 127 = -((expo a : ℤ) - 127) by omega, zpow_neg, one_div, one_mul]

end Cert.Exponent

end
-- ==== Proof.Least.lean ====
/-
  The reference's choice of a group's scale is the kernel's.

  The reference takes the least of the powers `2^-125 … 2^120` above the quotient `a / 448`.
-/
module

public import proofs.«01_k».proof.Proof.Exponent

@[expose] public section

noncomputable section

open Idealize.ShloMosaic

namespace Cert.Exponent

/-- Power `j` of the reference's list. -/
theorem power (j : Fin 246) :
    (FloatOps.exp2 (FloatOps.sitofp FTy.f32 (BitVec.ofNat 32 j.val) - Ideal.ofBits FTy.f32 1123680256#32 : Ideal .f32) : EReal)
      = (((2 : ℝ) ^ ((j.val : ℤ) - 125) : ℝ) : EReal) := by
  have hj := j.isLt
  have e : (BitVec.ofNat 32 j.val).toInt = (j.val : ℤ) := by
    rw [BitVec.toInt_eq_toNat_of_lt (by rw [BitVec.toNat_ofNat]; omega), BitVec.toNat_ofNat, Nat.mod_eq_of_lt (by omega)]
  rw [ofBits_125]
  show Ideal.exp2 ((((BitVec.ofNat 32 j.val).toInt : ℝ) : EReal) - ((125 : ℝ) : EReal)) = _
  rw [e, ← EReal.coe_sub, Ideal.exp2_coe]
  refine congrArg _ ?_
  rw [← Real.rpow_intCast]
  push_cast
  rfl

theorem div_448 (a : EReal) : Ideal.div a ((448 : ℝ) : EReal) = a * ((1 / 448 : ℝ) : EReal) := Ideal.div_coe (by norm_num) a

/-- A quotient compared is the magnitude compared. -/
theorem le_div (r : ℝ) (a : EReal) : ((r : ℝ) : EReal) ≤ Ideal.div a ((448 : ℝ) : EReal) ↔ ((448 * r : ℝ) : EReal) ≤ a := by
  rw [div_448]
  induction a with
  | bot => rw [EReal.bot_mul_coe_of_pos (by norm_num), le_bot_iff, le_bot_iff]; exact iff_of_false (EReal.coe_ne_bot _) (EReal.coe_ne_bot _)
  | top => rw [EReal.top_mul_coe_of_pos (by norm_num)]; exact iff_of_true le_top le_top
  | coe a =>
    rw [← EReal.coe_mul, EReal.coe_le_coe_iff, EReal.coe_le_coe_iff]
    constructor <;> intro h <;> linarith

theorem div_lt (r : ℝ) (a : EReal) : Ideal.div a ((448 : ℝ) : EReal) < ((r : ℝ) : EReal) ↔ a < ((448 * r : ℝ) : EReal) := by
  rw [← not_le, le_div, not_le]

theorem thr_eq (n : ℕ) (h : n ≠ 1) : thr n = 448 * 2 ^ ((n : ℤ) - 136) := if_neg h

/-- The quotient is large enough exactly when ten thresholds are passed. -/
theorem tiny_iff (a : EReal) : Ideal.ofBits .f32 8388608#32 ≤ Ideal.div a ((448 : ℝ) : EReal) ↔ ¬grade a < 10 := by
  rw [ofBits_tiny, le_div, not_lt, ← thr_le_iff a 10 (by decide) (by decide), thr_eq 10 (by decide)]
  norm_num

/-- A power lies above the quotient exactly when its exponent is the grade's or more. -/
theorem above_iff (a : EReal) (h : 10 ≤ grade a) (hb : ¬((big : ℝ) : EReal) < a) (j : Fin 246) :
    Ideal.div a ((448 : ℝ) : EReal) < (((2 : ℝ) ^ ((j.val : ℤ) - 125) : ℝ) : EReal) ↔ grade a ≤ j.val + 10 := by
  have hj := j.isLt
  have hg := grade_lt a
  rw [div_lt]
  by_cases e : j.val = 245
  · refine ⟨fun _ => by omega, fun _ => lt_of_le_of_lt (not_lt.mp hb) (EReal.coe_lt_coe_iff.mpr ?_)⟩
    rw [e]
    unfold big
    norm_num
  · have := thr_le_iff a (j.val + 11) (by omega) (by omega)
    rw [thr_eq _ (by omega)] at this
    rw [show ((j.val + 11 : ℕ) : ℤ) - 136 = (j.val : ℤ) - 125 by push_cast; ring] at this
    rw [← not_le, this]
    omega

/-- The reference's scale. -/
theorem least (a : EReal) :
    Scalar.select (IntOp.andi
        (BitVec.ofBool (decide (Ideal.ofBits .f32 8388608#32 ≤ Ideal.div a (Ideal.ofBits .f32 1138753536#32))))
        (BitVec.ofBool (decide (a ≤ Ideal.ofBits .f32 2139095039#32))))
      (Finset.fold min (Ideal.ofBits .f32 2139095040#32)
        (fun j : Fin 246 =>
          if Ideal.div a (Ideal.ofBits .f32 1138753536#32)
              < FloatOps.exp2 (FloatOps.sitofp FTy.f32 (BitVec.ofNat 32 j.val) - Ideal.ofBits FTy.f32 1123680256#32 : Ideal .f32)
          then FloatOps.exp2 (FloatOps.sitofp FTy.f32 (BitVec.ofNat 32 j.val) - Ideal.ofBits FTy.f32 1123680256#32 : Ideal .f32)
          else Ideal.ofBits .f32 2139095040#32)
        Finset.univ) 1 = scale a := by
  rw [ofBits_448]
  have hg := grade_lt a
  have hc : IntOp.andi (BitVec.ofBool (decide (Ideal.ofBits .f32 8388608#32 ≤ Ideal.div a ((448 : ℝ) : EReal))))
      (BitVec.ofBool (decide (a ≤ Ideal.ofBits .f32 2139095039#32)))
      = BitVec.ofBool (decide (¬(grade a < 10 ∨ ((big : ℝ) : EReal) < a))) := by
    rw [ofBits_big, show (decide (Ideal.ofBits .f32 8388608#32 ≤ Ideal.div a ((448 : ℝ) : EReal))) = decide (¬grade a < 10)
      from decide_eq_decide.mpr (tiny_iff a), show decide (a ≤ ((big : ℝ) : EReal)) = decide (¬((big : ℝ) : EReal) < a)
      from decide_eq_decide.mpr not_lt.symm]
    by_cases h1 : grade a < 10 <;> by_cases h2 : ((big : ℝ) : EReal) < a <;> simp [h1, h2, IntOp.andi]
  rw [hc]
  unfold scale expo
  by_cases hs : grade a < 10 ∨ ((big : ℝ) : EReal) < a
  · rw [if_pos hs]
    simp [hs, Scalar.select]
  · rw [if_neg hs, decide_eq_true hs]
    obtain ⟨h1, h2⟩ := not_or.mp hs
    rw [show ∀ x y : EReal, Scalar.select (BitVec.ofBool true) x y = x from fun _ _ => rfl]
    have e : ((grade a - 8 : ℕ) : ℤ) - 127 = ((grade a - 10 : ℕ) : ℤ) - 125 := by omega
    rw [e]
    refine le_antisymm ?_ ?_
    · refine (Finset.fold_min_le _).mpr (.inr ⟨⟨grade a - 10, by omega⟩, Finset.mem_univ _, ?_⟩)
      rw [power, if_pos ((above_iff a (by omega) h2 _).mpr (by dsimp only; omega))]
    · refine (Finset.le_fold_min _).mpr ⟨by rw [ofBits_top]; exact le_top, fun j _ => ?_⟩
      rw [power]
      split
      · rename_i hlt
        have := (above_iff a (by omega) h2 j).mp hlt
        exact EReal.coe_le_coe_iff.mpr (zpow_le_zpow_right₀ (by norm_num) (by omega))
      · rw [ofBits_top]; exact le_top

end Cert.Exponent

end
-- ==== Proof.Reference.lean ====
/-
  The reference's results, read at one place.

  Each token's 128 lanes of a group have one scale, that of their largest magnitude; the codes are the lanes times the
  scale's reciprocal, clipped; the product sums the rescaled codes times the rescaled weights.
-/
module

public import proofs.«01_k».proof.Proof.Least
public import proofs.«01_k».proof.Proof.Gen.ReferenceIdeal.Value

@[expose] public section

noncomputable section

open Idealize.ShloMosaic Idealize.ShloMosaic.TcCoe Idealize.SL.Sem

namespace Cert.Exponent

/-- The largest magnitude of 128 lanes. -/
def mag (f : Fin 128 → EReal) : EReal :=
  Finset.fold max (Ideal.ofBits .f32 4286578688#32) (fun l => FloatOps.absf (F := Ideal) (φ := .f32) (f l)) Finset.univ

/-- A lane's code under the scale `s`: clipped to `[-448, 448]`. -/
def code (x s : EReal) : EReal :=
  min (Ideal.ofBits .f32 1138753536#32) (max (Ideal.ofBits .f32 3286237184#32) (x * Ideal.div 1 s))

end Cert.Exponent

namespace Cert.ReferenceIdeal.Value

open Cert.ReferenceIdeal Cert.ReferenceIdeal.Gen Cert.Exponent

/-- The 128 lanes of token `t` of head `h` in group `g`. -/
def row (X : S16x3072x1024.Idx → EReal) (h : Fin 16) (t : Fin 3072) (g : Fin 8) : Fin 128 → EReal :=
  fun l => X (ix3 h t ⟨g.val * 128 + l.val, by have := g.isLt; have := l.isLt; omega⟩)

/-- The largest magnitudes. -/
def rMax (v : Vec Ideal S16x3072x1024 .bf16) : FVec Ideal S16x3072x8 .f32 :=
  multiReduction .maximumf [3] S16x3072x8 (absf (k0_pay2 v)) 0xFF800000#32 reduces_S16x3072x8x128_S16x3072x8 (.inl rfl) rfl

/-- The powers of two, one list of them for each group. -/
def rPow : FVec Ideal S16x3072x8x246 .f32 :=
  exp2 (subf (sitofp .f32 (iota .tc S16x3072x8x246 32 [3] iota_S16x3072x8x246_d3_w32))
    (broadcast S16x3072x8x246 (Scalar.ofBits .f32 0x42FA0000#32)))

/-- The quotients by the greatest code. -/
def rQuot (a : FVec Ideal S16x3072x8 .f32) : FVec Ideal S16x3072x8 .f32 :=
  divf a (broadcast S16x3072x8 (Scalar.ofBits .f32 0x43E00000#32))

/-- The least powers above the quotients. -/
def rLeast (q : FVec Ideal S16x3072x8 .f32) (p : FVec Ideal S16x3072x8x246 .f32) : FVec Ideal S16x3072x8 .f32 :=
  multiReduction .minimumf [3] S16x3072x8
    (select (cmpf .olt (broadcastTo S16x3072x8x246 (shapeCast S16x3072x8x1 q shapeCasts_S16x3072x8_S16x3072x8x1)
        broadcasts_S16x3072x8x1_S16x3072x8x246) p) p (broadcast S16x3072x8x246 (Scalar.ofBits .f32 0x7F800000#32)))
    0x7F800000#32 reduces_S16x3072x8x246_S16x3072x8 (.inl rfl) rfl

/-- The scales. -/
def rScale (a q l : FVec Ideal S16x3072x8 .f32) : FVec Ideal S16x3072x8 .f32 :=
  select (andi (cmpf .oge q (broadcast S16x3072x8 (Scalar.ofBits .f32 0x00800000#32)))
    (cmpf .ole a (broadcast S16x3072x8 (Scalar.ofBits .f32 0x7F7FFFFF#32)))) l
    (broadcast S16x3072x8 (Scalar.ofBits .f32 0x3F800000#32))

theorem pay3_eq (v : Vec Ideal S16x3072x1024 .bf16) :
    k0_pay3 v = rScale (rMax v) (rQuot (rMax v)) (rLeast (rQuot (rMax v)) rPow) := rfl

theorem rMax_apply (v : Vec Ideal S16x3072x1024 .bf16) (h : Fin 16) (t : Fin 3072) (g : Fin 8) :
    rMax v (ix3 h t g) = mag (row v h t g) := by
  pointwise [rMax, k0_pay2]
  rfl

theorem rPow_apply (h : Fin 16) (t : Fin 3072) (g : Fin 8) (j : Fin 246) :
    rPow (ix4 h t g j)
      = FloatOps.exp2 (FloatOps.sitofp FTy.f32 (BitVec.ofNat 32 j.val) - Ideal.ofBits FTy.f32 1123680256#32 : Ideal .f32) := by
  pointwise [rPow]

theorem rLeast_apply (q : FVec Ideal S16x3072x8 .f32) (p : FVec Ideal S16x3072x8x246 .f32) (h : Fin 16) (t : Fin 3072) (g : Fin 8) :
    rLeast q p (ix3 h t g) = Finset.fold min (Ideal.ofBits .f32 2139095040#32)
      (fun j : Fin 246 => if q (ix3 h t g) < p (ix4 h t g j) then p (ix4 h t g j) else Ideal.ofBits .f32 2139095040#32) Finset.univ := by
  pointwise [rLeast]

theorem rQuot_apply (a : FVec Ideal S16x3072x8 .f32) (i : S16x3072x8.Idx) :
    rQuot a i = Ideal.div (a i) (Ideal.ofBits .f32 1138753536#32) := by
  pointwise [rQuot]

theorem rScale_apply (a q l : FVec Ideal S16x3072x8 .f32) (i : S16x3072x8.Idx) :
    rScale a q l i = Scalar.select (IntOp.andi (BitVec.ofBool (decide (Ideal.ofBits .f32 8388608#32 ≤ q i)))
      (BitVec.ofBool (decide (a i ≤ Ideal.ofBits .f32 2139095039#32)))) (l i) 1 := by
  pointwise [rScale]

/-- A group's scale. -/
theorem pay3_apply (v : Vec Ideal S16x3072x1024 .bf16) (h : Fin 16) (t : Fin 3072) (g : Fin 8) :
    k0_pay3 v (ix3 h t g) = scale (mag (row v h t g)) := by
  rw [pay3_eq, rScale_apply, rLeast_apply, rQuot_apply, rMax_apply]
  generalize mag (row v h t g) = a
  rw [← least]
  refine congrArg (fun f => Scalar.select _ (Finset.fold min _ f Finset.univ) _) (funext fun j => ?_)
  rw [rPow_apply]

/-- A lane's code. -/
theorem pay4_apply (v : Vec Ideal S16x3072x1024 .bf16) (h : Fin 16) (t : Fin 3072) (g : Fin 8) (l : Fin 128) :
    k0_pay4 v (ix4 h t g l) = code (row v h t g l) (scale (mag (row v h t g))) := by
  rw [← pay3_apply]
  pointwise [k0_pay4, k0_pay2]
  rfl

/-- The scales are computed of the whole array. -/
theorem pay6_eq (v : Vec Ideal S16x3072x1024 .bf16) (w : Vec Ideal S16x1024x2048 .fp8e4m3) (s : Vec Ideal S16x8x16 .f32) :
    k0_pay6 v w s = k0_pay3 v := by
  unfold k0_pay6
  rw [View.ld_unit_zero (S := S16x3072x1024) hz0 _ v]

end Cert.ReferenceIdeal.Value

end
-- ==== Proof.Codes.lean ====
/-
  One group of 128 lanes of the kernel, read at one token.
-/
module

public import proofs.«01_k».proof.Proof.Reference

@[expose] public section

noncomputable section

open Idealize.ShloMosaic Idealize.ShloMosaic.TcCoe Idealize.SL.Sem

namespace Cert.KernelIdeal.Value

open Cert.KernelIdeal Cert.KernelIdeal.Gen Cert.Exponent

theorem gMax_apply (v : Vec Ideal S1x512x128 .bf16) (r : Fin 512) (o : Fin 1) :
    gMax v (ix2 r o) = mag (fun l => v (ix3 (0 : Fin 1) r l)) := by
  pointwise [gMax]
  rfl

theorem step_apply (a : FVec Ideal S512x1 .f32) (s : BitVec 32) (c : IVec S512x1 32) (r : Fin 512) (o : Fin 1) :
    step a s c (ix2 r o) = sstep (a (ix2 r o)) s (c (ix2 r o)) := by
  pointwise [step]

theorem count_apply (a : FVec Ideal S512x1 .f32) (r : Fin 512) (o : Fin 1) :
    count a (ix2 r o) = BitVec.ofNat 32 (grade (a (ix2 r o))) := by
  rw [← search]
  unfold count
  rw [step_apply, step_apply, step_apply, step_apply, step_apply, step_apply, step_apply, step_apply]
  rfl

theorem biased_apply (a : FVec Ideal S512x1 .f32) (r : Fin 512) (o : Fin 1) :
    biased a (ix2 r o) = BitVec.ofNat 32 (expo (a (ix2 r o))) := by
  rw [← biased_word, ← count_apply]
  pointwise [biased]

/-- A token's scale. -/
theorem gScale_apply (v : Vec Ideal S1x512x128 .bf16) (r : Fin 512) (o : Fin 1) :
    gScale v (ix2 r o) = scale (mag (fun l => v (ix3 (0 : Fin 1) r l))) := by
  rw [← gMax_apply v r o, ← scale_word, ← biased_apply]
  pointwise [gScale]

/-- A token's reciprocal scale. -/
theorem gInv_apply (v : Vec Ideal S1x512x128 .bf16) (r : Fin 512) (o : Fin 1) :
    gInv v (ix2 r o) = Ideal.div 1 (scale (mag (fun l => v (ix3 (0 : Fin 1) r l)))) := by
  rw [← gMax_apply v r o, ← inv_word, ← biased_apply]
  pointwise [gInv]

/-- A lane's code. -/
theorem gCodes_apply (v : Vec Ideal S1x512x128 .bf16) (r : Fin 512) (l : Fin 128) :
    gCodes v (ix2 r l) = code (v (ix3 (0 : Fin 1) r l)) (scale (mag (fun l => v (ix3 (0 : Fin 1) r l)))) := by
  unfold code
  rw [← gInv_apply v r 0]
  pointwise [gCodes]

/-- A lane's code rescaled. -/
theorem gDeq_apply (v : Vec Ideal S1x512x128 .bf16) (r : Fin 512) (l : Fin 128) :
    gDeq v (ix2 r l) = code (v (ix3 (0 : Fin 1) r l)) (scale (mag (fun l => v (ix3 (0 : Fin 1) r l))))
      * scale (mag (fun l => v (ix3 (0 : Fin 1) r l))) := by
  rw [← gCodes_apply, ← gScale_apply v r 0]
  pointwise [gDeq]

end Cert.KernelIdeal.Value

end
-- ==== Proof.Equation.lean ====
/-
  The kernel's three results are the reference's.
-/
module

public import proofs.«01_k».proof.Proof.Codes

@[expose] public section

noncomputable section

open Idealize.ShloMosaic Idealize.ShloMosaic.TcCoe Idealize.SL.Sem

namespace Cert.KernelIdeal.Value

open Cert.KernelIdeal Cert.KernelIdeal.Gen Cert.Exponent

/-- A token's lanes in its block are its lanes in the array. -/
theorem lanes_row (X : S16x3072x1024.Idx → EReal) (h : Fin 16) (t : Fin 3072) (g : Fin 8) :
    (fun l => lanes (xBlk X h (tb t)) g (ix3 (0 : Fin 1) (tr t) l)) = Cert.ReferenceIdeal.Value.row X h t g := by
  funext l
  refine congrArg X (funext fun a => Fin.ext ?_)
  fin_cases a
  · rfl
  · show 512 * (t.val / 512) + t.val % 512 = t.val; omega
  · show 128 * g.val + l.val = g.val * 128 + l.val; omega

/-- The scales agree. -/
theorem scales_eq (X : S16x3072x1024.Idx → EReal) : resT X = Cert.ReferenceIdeal.Gen.k0_pay3 (F := Ideal) X := by
  funext y
  idx_vars y
  rw [Cert.ReferenceIdeal.Value.pay3_apply, ← lanes_row, ← gScale_apply _ _ 0]
  rfl

/-- The codes agree. -/
theorem codes_eq (X : S16x3072x1024.Idx → EReal) : resC X = Cert.ReferenceIdeal.Gen.k0_pay5 (F := Ideal) X := by
  funext y
  idx_vars y
  pointwise [Cert.ReferenceIdeal.Gen.k0_pay5]
  rw [Cert.ReferenceIdeal.Value.pay4_apply, ← lanes_row, ← gCodes_apply]
  rfl

/-- The products agree. -/
theorem products_eq (X : S16x3072x1024.Idx → EReal) (W : S16x1024x2048.Idx → EReal) (S : S16x8x16.Idx → EReal) :
    resY X W S = Cert.ReferenceIdeal.Gen.k0_pay1 (F := Ideal) W S (Cert.ReferenceIdeal.Gen.k0_pay3 X) (Cert.ReferenceIdeal.Gen.k0_pay4 X) := by
  funext y
  idx_vars y
  pointwise [Cert.ReferenceIdeal.Gen.k0_pay1]
  show yBlock (deqFull (xBlk X y0 (tb y1))) (wFull (sBlk S) (wBlk W y0) y0) (ix3 (0 : Fin 1) (tr y1) y2) = _
  pointwise [yBlock]
  refine Finset.sum_congr rfl fun k _ => congrArg₂ (· * ·) ?_ (congrArg (W (ix3 y0 k y2) * ·) (congrArg S (funext fun a => Fin.ext ?_)))
  · rw [Cert.ReferenceIdeal.Value.pay4_apply, Cert.ReferenceIdeal.Value.pay3_apply, ← lanes_row, ← gDeq_apply]
    rfl
  · have := y2.isLt
    fin_cases a
    · rfl
    · show (k.val / 128 * 16 + y2.val / 128) / 16 = k.val / 128; omega
    · show (k.val / 128 * 16 + y2.val / 128) % 16 = y2.val / 128; omega

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories agreeing on the arguments the two programs end with the same three results. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨_, _, _, Cert.KernelIdeal.Value.run m g,
    (θ_run _ _ _).mono (fun r h c => ?_) (Cert.ReferenceIdeal.Value.run (F := Ideal) m' g')⟩
  obtain ⟨a0, a1, a2⟩ := hagree c
  obtain ⟨h0, h1, h2, k0, k1, k2⟩ := h c
  refine ⟨h0.trans ?_, h1.trans ?_, h2.trans ?_, k0, k1, k2⟩
  · rw [a0, a1, a2]
    exact (congrArg (fun s => Cert.ReferenceIdeal.Gen.k0_pay1 _ _ s _) (Cert.ReferenceIdeal.Value.pay6_eq _ _ _)).trans
      (Cert.KernelIdeal.Value.products_eq _ _ _).symm
  · rw [a0]
    exact (Cert.KernelIdeal.Value.codes_eq _).symm
  · rw [a0, a1, a2]
    exact (Cert.ReferenceIdeal.Value.pay6_eq _ _ _).trans (Cert.KernelIdeal.Value.scales_eq _).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
